-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x16x64 : Shape := ⟨4, ![4, 2048, 16, 64]⟩
abbrev S1 : Shape := ⟨1, ![1]⟩
abbrev S_ : Shape := ⟨0, ![]⟩

class Facts : Prop where
  bcast_S_S4x2048x16x64 : S_.BroadcastsInDim S4x2048x16x64 (![] : Fin 0 → Fin S4x2048x16x64.rank)
  reducesTo_S4x2048x16x64_S_d0_1_2_3 : S4x2048x16x64.ReducesTo [0, 1, 2, 3] S_
  h_S_ : 0 < S_.numel

variable [Facts]

def fn {F : FTy → Type} [FloatOps F] (main_arg0 : FVec F S4x2048x16x64 .f32) (main_arg1 : FVec F S4x2048x16x64 .f32) (main_arg2 : FVec F S4x2048x16x64 .f32) (main_arg3 : IVec S1 1) : IVec S_ 1 :=
  let main_v0 : FVec F S4x2048x16x64 .f32 := Host.absf main_arg0
  let main_cst : FVec F S_ .f32 := constant S_ .f32 0x7F800000#32
  let main_v1 : FVec F S4x2048x16x64 .f32 := broadcastInDim S4x2048x16x64 ![] bcast_S_S4x2048x16x64 main_cst
  let main_v2 : IVec S4x2048x16x64 1 := cmpf .olt main_v0 main_v1
  let main_c : IVec S_ 1 := constantI S_ 1 1#1
  let main_v3 : IVec S_ 1 := (fun x v => Host.reduce IntOp.andi x v reducesTo_S4x2048x16x64_S_d0_1_2_3 h_S_) main_v2 main_c
  let main_v4 : FVec F S4x2048x16x64 .f32 := Host.absf main_arg1
  let main_cst_0 : FVec F S_ .f32 := constant S_ .f32 0x7F800000#32
  let main_v5 : FVec F S4x2048x16x64 .f32 := broadcastInDim S4x2048x16x64 ![] bcast_S_S4x2048x16x64 main_cst_0
  let main_v6 : IVec S4x2048x16x64 1 := cmpf .olt main_v4 main_v5
  let main_c_1 : IVec S_ 1 := constantI S_ 1 1#1
  let main_v7 : IVec S_ 1 := (fun x v => Host.reduce IntOp.andi x v reducesTo_S4x2048x16x64_S_d0_1_2_3 h_S_) main_v6 main_c_1
  let main_v8 : IVec S_ 1 := andi main_v3 main_v7
  let main_v9 : FVec F S4x2048x16x64 .f32 := Host.absf main_arg2
  let main_cst_2 : FVec F S_ .f32 := constant S_ .f32 0x7F800000#32
  let main_v10 : FVec F S4x2048x16x64 .f32 := broadcastInDim S4x2048x16x64 ![] bcast_S_S4x2048x16x64 main_cst_2
  let main_v11 : IVec S4x2048x16x64 1 := cmpf .olt main_v9 main_v10
  let main_c_3 : IVec S_ 1 := constantI S_ 1 1#1
  let main_v12 : IVec S_ 1 := (fun x v => Host.reduce IntOp.andi x v reducesTo_S4x2048x16x64_S_d0_1_2_3 h_S_) main_v11 main_c_3
  let main_v13 : IVec S_ 1 := andi main_v8 main_v12
  main_v13
-- ==== Kernel.lean ====
abbrev S4x2048x16x64 : Shape := ⟨4, ![4, 2048, 16, 64]⟩
abbrev S1 : Shape := ⟨1, ![1]⟩
abbrev S16x1x128 : Shape := ⟨3, ![16, 1, 128]⟩
abbrev S4x16x64x2048 : Shape := ⟨4, ![4, 16, 64, 2048]⟩
abbrev S4096x16x128 : Shape := ⟨3, ![4096, 16, 128]⟩
abbrev S16x4096x128 : Shape := ⟨3, ![16, 4096, 128]⟩
abbrev S128 : Shape := ⟨1, ![128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S32x16 : Shape := ⟨2, ![32, 16]⟩
abbrev S1x128 : Shape := ⟨2, ![1, 128]⟩
abbrev S16x128 : Shape := ⟨2, ![16, 128]⟩
abbrev S128x1 : Shape := ⟨2, ![128, 1]⟩
abbrev S128x128 : Shape := ⟨2, ![128, 128]⟩
abbrev S128x256 : Shape := ⟨2, ![128, 256]⟩
abbrev S256x256 : Shape := ⟨2, ![256, 256]⟩
abbrev S16x32 : Shape := ⟨2, ![16, 32]⟩
abbrev S16x256x128 : Shape := ⟨3, ![16, 256, 128]⟩
abbrev S32x256x128 : Shape := ⟨3, ![32, 256, 128]⟩
abbrev S16x256x256 : Shape := ⟨3, ![16, 256, 256]⟩
abbrev S4096x256 : Shape := ⟨2, ![4096, 256]⟩
abbrev S256x128 : Shape := ⟨2, ![256, 128]⟩
abbrev S1x256x128 : Shape := ⟨3, ![1, 256, 128]⟩
abbrev S1x256 : Shape := ⟨2, ![1, 256]⟩
abbrev S1x256x1 : Shape := ⟨3, ![1, 256, 1]⟩

abbrev nBuf : Space → Nat
  | .hbm => 183
  | .vmem => 21
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S1, .i1⟩
  | 4 => ⟨S16x1x128, .f32⟩
  | 5 => ⟨S4x16x64x2048, .f32⟩
  | 6 => ⟨S4096x16x128, .f32⟩
  | 7 => ⟨S16x4096x128, .f32⟩
  | 8 => ⟨S4x16x64x2048, .f32⟩
  | 9 => ⟨S4096x16x128, .f32⟩
  | 10 => ⟨S16x4096x128, .f32⟩
  | 11 => ⟨S4x16x64x2048, .f32⟩
  | 12 => ⟨S4096x16x128, .f32⟩
  | 13 => ⟨S16x4096x128, .f32⟩
  | 14 => ⟨S128, .i32⟩
  | 15 => ⟨S16, .i32⟩
  | 16 => ⟨S16x1, .i32⟩
  | 17 => ⟨S1x16, .i32⟩
  | 18 => ⟨S16x16, .i32⟩
  | 19 => ⟨S16x16, .i32⟩
  | 20 => ⟨S16x16, .i32⟩
  | 21 => ⟨S_, .i32⟩
  | 22 => ⟨S16x16, .i32⟩
  | 23 => ⟨S16x16, .i32⟩
  | 24 => ⟨S_, .f32⟩
  | 25 => ⟨S_, .f32⟩
  | 26 => ⟨S16x16, .f32⟩
  | 27 => ⟨S_, .f32⟩
  | 28 => ⟨S16x16, .f32⟩
  | 29 => ⟨S16x16, .f32⟩
  | 30 => ⟨S16x16, .f32⟩
  | 31 => ⟨S16x16, .f32⟩
  | 32 => ⟨S16x16, .f32⟩
  | 33 => ⟨S16x16, .f32⟩
  | 34 => ⟨S_, .f32⟩
  | 35 => ⟨S16x16, .f32⟩
  | 36 => ⟨S16x16, .f32⟩
  | 37 => ⟨S32x16, .f32⟩
  | 38 => ⟨S16x1, .i32⟩
  | 39 => ⟨S1x128, .i32⟩
  | 40 => ⟨S16x128, .i32⟩
  | 41 => ⟨S16x128, .i32⟩
  | 42 => ⟨S16x128, .i32⟩
  | 43 => ⟨S_, .i32⟩
  | 44 => ⟨S16x128, .i32⟩
  | 45 => ⟨S16x128, .i32⟩
  | 46 => ⟨S_, .f32⟩
  | 47 => ⟨S_, .f32⟩
  | 48 => ⟨S16x128, .f32⟩
  | 49 => ⟨S_, .f32⟩
  | 50 => ⟨S16x128, .f32⟩
  | 51 => ⟨S16x128, .f32⟩
  | 52 => ⟨S16x128, .f32⟩
  | 53 => ⟨S16x128, .f32⟩
  | 54 => ⟨S16x128, .f32⟩
  | 55 => ⟨S16x128, .f32⟩
  | 56 => ⟨S_, .f32⟩
  | 57 => ⟨S16x128, .f32⟩
  | 58 => ⟨S16x128, .f32⟩
  | 59 => ⟨S16x1x128, .f32⟩
  | 60 => ⟨S16x1x128, .f32⟩
  | 61 => ⟨S128x1, .i32⟩
  | 62 => ⟨S1x128, .i32⟩
  | 63 => ⟨S128x128, .i32⟩
  | 64 => ⟨S128x128, .i32⟩
  | 65 => ⟨S128x128, .i32⟩
  | 66 => ⟨S_, .i32⟩
  | 67 => ⟨S128x128, .i32⟩
  | 68 => ⟨S128x128, .i32⟩
  | 69 => ⟨S_, .f32⟩
  | 70 => ⟨S_, .f32⟩
  | 71 => ⟨S128x128, .f32⟩
  | 72 => ⟨S_, .f32⟩
  | 73 => ⟨S128x128, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S_, .f32⟩
  | 80 => ⟨S128x128, .f32⟩
  | 81 => ⟨S128x128, .f32⟩
  | 82 => ⟨S128x128, .f32⟩
  | 83 => ⟨S128x256, .f32⟩
  | 84 => ⟨S128x256, .f32⟩
  | 85 => ⟨S256x256, .f32⟩
  | 86 => ⟨S128x1, .i32⟩
  | 87 => ⟨S1x128, .i32⟩
  | 88 => ⟨S128x128, .i32⟩
  | 89 => ⟨S128x128, .i32⟩
  | 90 => ⟨S128x128, .i32⟩
  | 91 => ⟨S_, .i32⟩
  | 92 => ⟨S128x128, .i32⟩
  | 93 => ⟨S128x128, .i32⟩
  | 94 => ⟨S_, .f32⟩
  | 95 => ⟨S_, .f32⟩
  | 96 => ⟨S128x128, .f32⟩
  | 97 => ⟨S_, .f32⟩
  | 98 => ⟨S128x128, .f32⟩
  | 99 => ⟨S128x128, .f32⟩
  | 100 => ⟨S128x128, .f32⟩
  | 101 => ⟨S128x128, .f32⟩
  | 102 => ⟨S128x128, .f32⟩
  | 103 => ⟨S128x128, .f32⟩
  | 104 => ⟨S_, .f32⟩
  | 105 => ⟨S128x128, .f32⟩
  | 106 => ⟨S128x128, .f32⟩
  | 107 => ⟨S_, .f32⟩
  | 108 => ⟨S128x128, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S128x256, .f32⟩
  | 115 => ⟨S128x256, .f32⟩
  | 116 => ⟨S256x256, .f32⟩
  | 117 => ⟨S16x1, .i32⟩
  | 118 => ⟨S1x128, .i32⟩
  | 119 => ⟨S16x128, .i32⟩
  | 120 => ⟨S16x128, .i32⟩
  | 121 => ⟨S16x128, .i32⟩
  | 122 => ⟨S_, .i32⟩
  | 123 => ⟨S16x128, .i32⟩
  | 124 => ⟨S16x128, .i32⟩
  | 125 => ⟨S_, .f32⟩
  | 126 => ⟨S_, .f32⟩
  | 127 => ⟨S16x128, .f32⟩
  | _ => ⟨S4x2048x16x64, .f32⟩

abbrev hbmTy0_1 (i : Nat) : BufTy := match i % 128 with
  | 0 => ⟨S_, .f32⟩
  | 1 => ⟨S16x128, .f32⟩
  | 2 => ⟨S16x128, .f32⟩
  | 3 => ⟨S16x128, .f32⟩
  | 4 => ⟨S16x128, .f32⟩
  | 5 => ⟨S16x128, .f32⟩
  | 6 => ⟨S16x128, .f32⟩
  | 7 => ⟨S_, .f32⟩
  | 8 => ⟨S16x128, .f32⟩
  | 9 => ⟨S16x128, .f32⟩
  | 10 => ⟨S16x1x128, .f32⟩
  | 11 => ⟨S16x1x128, .f32⟩
  | 12 => ⟨S16x1, .i32⟩
  | 13 => ⟨S1x16, .i32⟩
  | 14 => ⟨S16x16, .i32⟩
  | 15 => ⟨S16x16, .i32⟩
  | 16 => ⟨S16x16, .i32⟩
  | 17 => ⟨S_, .i32⟩
  | 18 => ⟨S16x16, .i32⟩
  | 19 => ⟨S16x16, .i32⟩
  | 20 => ⟨S_, .f32⟩
  | 21 => ⟨S_, .f32⟩
  | 22 => ⟨S16x16, .f32⟩
  | 23 => ⟨S_, .f32⟩
  | 24 => ⟨S16x16, .f32⟩
  | 25 => ⟨S16x16, .f32⟩
  | 26 => ⟨S16x16, .f32⟩
  | 27 => ⟨S16x16, .f32⟩
  | 28 => ⟨S16x16, .f32⟩
  | 29 => ⟨S16x16, .f32⟩
  | 30 => ⟨S_, .f32⟩
  | 31 => ⟨S16x16, .f32⟩
  | 32 => ⟨S16x16, .f32⟩
  | 33 => ⟨S16x16, .f32⟩
  | 34 => ⟨S16x32, .f32⟩
  | 35 => ⟨S32x16, .bf16⟩
  | 36 => ⟨S32x16, .f32⟩
  | 37 => ⟨S32x16, .f32⟩
  | 38 => ⟨S32x16, .bf16⟩
  | 39 => ⟨S256x256, .bf16⟩
  | 40 => ⟨S256x256, .f32⟩
  | 41 => ⟨S256x256, .f32⟩
  | 42 => ⟨S256x256, .bf16⟩
  | 43 => ⟨S256x256, .bf16⟩
  | 44 => ⟨S256x256, .f32⟩
  | 45 => ⟨S256x256, .f32⟩
  | 46 => ⟨S256x256, .bf16⟩
  | 47 => ⟨S16x32, .bf16⟩
  | 48 => ⟨S16x32, .f32⟩
  | 49 => ⟨S16x32, .f32⟩
  | 50 => ⟨S16x32, .bf16⟩
  | 51 => ⟨S16x4096x128, .f32⟩
  | 52 => ⟨S4096x16x128, .f32⟩
  | 53 => ⟨S4x16x64x2048, .f32⟩
  | 54 => ⟨S4x2048x16x64, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | .local _ .vmem, ⟨0, _⟩ => ⟨S16x256x128, .f32⟩
  | .local _ .vmem, ⟨1, _⟩ => ⟨S16x256x128, .f32⟩
  | .local _ .vmem, ⟨2, _⟩ => ⟨S16x256x128, .f32⟩
  | .local _ .vmem, ⟨3, _⟩ => ⟨S16x256x128, .f32⟩
  | .local _ .vmem, ⟨4, _⟩ => ⟨S16x256x128, .f32⟩
  | .local _ .vmem, ⟨5, _⟩ => ⟨S16x256x128, .f32⟩
  | .local _ .vmem, ⟨6, _⟩ => ⟨S32x16, .bf16⟩
  | .local _ .vmem, ⟨7, _⟩ => ⟨S32x16, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S16x32, .bf16⟩
  | .local _ .vmem, ⟨13, _⟩ => ⟨S16x32, .bf16⟩
  | .local _ .vmem, ⟨14, _⟩ => ⟨S16x1x128, .f32⟩
  | .local _ .vmem, ⟨15, _⟩ => ⟨S16x1x128, .f32⟩
  | .local _ .vmem, ⟨16, _⟩ => ⟨S16x1x128, .f32⟩
  | .local _ .vmem, ⟨17, _⟩ => ⟨S16x1x128, .f32⟩
  | .local _ .vmem, ⟨18, _⟩ => ⟨S16x1x128, .f32⟩
  | .local _ .vmem, ⟨19, _⟩ => ⟨S16x256x128, .f32⟩
  | .local _ .vmem, ⟨20, _⟩ => ⟨S16x256x128, .f32⟩
  | _, _ => ⟨S4x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_cst_9 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_v0 : Ref sig .tc := ⟨.hbm, 83, rfl⟩
abbrev main_call0_v1 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_11 : Ref sig .tc := ⟨.hbm, 91, rfl⟩
abbrev main_v72 : Ref sig .tc := ⟨.hbm, 92, rfl⟩
abbrev main_v73 : Ref sig .tc := ⟨.hbm, 93, rfl⟩
abbrev main_cst_12 : Ref sig .tc := ⟨.hbm, 94, rfl⟩
abbrev main_v74 : Ref sig .tc := ⟨.hbm, 95, rfl⟩
abbrev main_v75 : Ref sig .tc := ⟨.hbm, 96, rfl⟩
abbrev main_cst_13 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_cst_16 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_call1_v0 : Ref sig .tc := ⟨.hbm, 114, rfl⟩
abbrev main_call1_v1 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_17 : Ref sig .tc := ⟨.hbm, 122, rfl⟩
abbrev main_v95 : Ref sig .tc := ⟨.hbm, 123, rfl⟩
abbrev main_v96 : Ref sig .tc := ⟨.hbm, 124, rfl⟩
abbrev main_cst_18 : Ref sig .tc := ⟨.hbm, 125, rfl⟩
abbrev main_v97 : Ref sig .tc := ⟨.hbm, 126, rfl⟩
abbrev main_v98 : Ref sig .tc := ⟨.hbm, 127, rfl⟩
abbrev main_cst_19 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_20 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_21 : Ref sig .tc := ⟨.hbm, 145, rfl⟩
abbrev main_v114 : Ref sig .tc := ⟨.hbm, 146, rfl⟩
abbrev main_v115 : Ref sig .tc := ⟨.hbm, 147, rfl⟩
abbrev main_cst_22 : Ref sig .tc := ⟨.hbm, 148, rfl⟩
abbrev main_v116 : Ref sig .tc := ⟨.hbm, 149, rfl⟩
abbrev main_v117 : Ref sig .tc := ⟨.hbm, 150, rfl⟩
abbrev main_cst_23 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_24 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S16x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x2048x16x64 : Shape := ⟨4, ![4, 2048, 16, 64]⟩
abbrev S1 : Shape := ⟨1, ![1]⟩
abbrev S4x16x64x2048 : Shape := ⟨4, ![4, 16, 64, 2048]⟩
abbrev S1025 : Shape := ⟨1, ![1025]⟩
abbrev S2048 : Shape := ⟨1, ![2048]⟩
abbrev S_ : Shape := ⟨0, ![]⟩
abbrev S1025x1 : Shape := ⟨2, ![1025, 1]⟩
abbrev S1x2048 : Shape := ⟨2, ![1, 2048]⟩
abbrev S1025x2048 : Shape := ⟨2, ![1025, 2048]⟩
abbrev S4x16x64x1025 : Shape := ⟨4, ![4, 16, 64, 1025]⟩
abbrev S1x1x1x1025 : Shape := ⟨4, ![1, 1, 1, 1025]⟩
abbrev S4x16x64x7 : Shape := ⟨4, ![4, 16, 64, 7]⟩
abbrev S4x16x64 : Shape := ⟨3, ![4, 16, 64]⟩
abbrev S4x16x64x1 : Shape := ⟨4, ![4, 16, 64, 1]⟩
abbrev S4x16x64x4096 : Shape := ⟨4, ![4, 16, 64, 4096]⟩
abbrev S1x1x1x2048 : Shape := ⟨4, ![1, 1, 1, 2048]⟩
abbrev S4x16x64x2048x1 : Shape := ⟨5, ![4, 16, 64, 2048, 1]⟩

abbrev nBuf : Space → Nat
  | .hbm => 231
  | .vmem => 0
  | .smem => 0
  | _ => 0

abbrev hbmTy0_0 (i : Nat) : BufTy := match i % 128 with
  | 0 => ⟨S4x2048x16x64, .f32⟩
  | 1 => ⟨S4x2048x16x64, .f32⟩
  | 2 => ⟨S4x2048x16x64, .f32⟩
  | 3 => ⟨S1, .i1⟩
  | 4 => ⟨S4x16x64x2048, .f32⟩
  | 5 => ⟨S4x16x64x2048, .f32⟩
  | 6 => ⟨S1025, .i32⟩
  | 7 => ⟨S2048, .i32⟩
  | 8 => ⟨S_, .f32⟩
  | 9 => ⟨S_, .f32⟩
  | 10 => ⟨S1025x1, .i32⟩
  | 11 => ⟨S1x2048, .i32⟩
  | 12 => ⟨S1025x2048, .i32⟩
  | 13 => ⟨S1025x2048, .i32⟩
  | 14 => ⟨S1025x2048, .i32⟩
  | 15 => ⟨S_, .i32⟩
  | 16 => ⟨S1025x2048, .i32⟩
  | 17 => ⟨S1025x2048, .i32⟩
  | 18 => ⟨S1025x2048, .f32⟩
  | 19 => ⟨S_, .f32⟩
  | 20 => ⟨S1025x2048, .f32⟩
  | 21 => ⟨S1025x2048, .f32⟩
  | 22 => ⟨S1025x2048, .f32⟩
  | 23 => ⟨S1025x2048, .f32⟩
  | 24 => ⟨S1025x2048, .f32⟩
  | 25 => ⟨S1025x2048, .f32⟩
  | 26 => ⟨S4x16x64x1025, .f32⟩
  | 27 => ⟨S4x16x64x1025, .f32⟩
  | 28 => ⟨S4x16x64x1025, .f32⟩
  | 29 => ⟨S4x16x64x1025, .f32⟩
  | 30 => ⟨S4x16x64x1025, .f32⟩
  | 31 => ⟨S4x16x64x1025, .f32⟩
  | 32 => ⟨S1025, .f32⟩
  | 33 => ⟨S_, .f32⟩
  | 34 => ⟨S1025, .f32⟩
  | 35 => ⟨S1025, .f32⟩
  | 36 => ⟨S_, .f32⟩
  | 37 => ⟨S1025, .f32⟩
  | 38 => ⟨S1025, .i1⟩
  | 39 => ⟨S_, .f32⟩
  | 40 => ⟨S1025, .f32⟩
  | 41 => ⟨S1025, .i1⟩
  | 42 => ⟨S1025, .i1⟩
  | 43 => ⟨S1025, .f32⟩
  | 44 => ⟨S1x1x1x1025, .f32⟩
  | 45 => ⟨S4x16x64x1025, .f32⟩
  | 46 => ⟨S4x16x64x1025, .f32⟩
  | 47 => ⟨S1x1x1x1025, .f32⟩
  | 48 => ⟨S4x16x64x1025, .f32⟩
  | 49 => ⟨S4x16x64x1025, .f32⟩
  | 50 => ⟨S1x1x1x1025, .f32⟩
  | 51 => ⟨S4x16x64x1025, .f32⟩
  | 52 => ⟨S4x16x64x1025, .f32⟩
  | 53 => ⟨S1x1x1x1025, .f32⟩
  | 54 => ⟨S4x16x64x1025, .f32⟩
  | 55 => ⟨S4x16x64x1025, .f32⟩
  | 56 => ⟨S4x16x64x1025, .f32⟩
  | 57 => ⟨S4x16x64x1025, .f32⟩
  | 58 => ⟨S4x16x64x1025, .f32⟩
  | 59 => ⟨S4x16x64x1025, .f32⟩
  | 60 => ⟨S4x16x64x1025, .f32⟩
  | 61 => ⟨S4x16x64x1025, .f32⟩
  | 62 => ⟨S1025, .i32⟩
  | 63 => ⟨S_, .i32⟩
  | 64 => ⟨S1025, .i32⟩
  | 65 => ⟨S1025, .i1⟩
  | 66 => ⟨S_, .i32⟩
  | 67 => ⟨S1025, .i32⟩
  | 68 => ⟨S1025, .i1⟩
  | 69 => ⟨S1025, .i1⟩
  | 70 => ⟨S_, .f32⟩
  | 71 => ⟨S_, .f32⟩
  | 72 => ⟨S1025, .f32⟩
  | 73 => ⟨S1025, .f32⟩
  | 74 => ⟨S1025, .f32⟩
  | 75 => ⟨S1025, .f32⟩
  | 76 => ⟨S1x1x1x1025, .f32⟩
  | 77 => ⟨S4x16x64x1025, .f32⟩
  | 78 => ⟨S4x16x64x1025, .f32⟩
  | 79 => ⟨S4x16x64x2048, .f32⟩
  | 80 => ⟨S1025, .f32⟩
  | 81 => ⟨S1x1x1x1025, .f32⟩
  | 82 => ⟨S4x16x64x1025, .f32⟩
  | 83 => ⟨S4x16x64x1025, .f32⟩
  | 84 => ⟨S4x16x64x2048, .f32⟩
  | 85 => ⟨S4x16x64x2048, .f32⟩
  | 86 => ⟨S_, .f32⟩
  | 87 => ⟨S4x16x64x2048, .f32⟩
  | 88 => ⟨S4x16x64x2048, .f32⟩
  | 89 => ⟨S4x16x64x2048, .f32⟩
  | 90 => ⟨S4x16x64x7, .f32⟩
  | 91 => ⟨S4x16x64x7, .i32⟩
  | 92 => ⟨S_, .f32⟩
  | 93 => ⟨S4x16x64, .f32⟩
  | 94 => ⟨S_, .f32⟩
  | 95 => ⟨S4x16x64, .f32⟩
  | 96 => ⟨S4x16x64, .f32⟩
  | 97 => ⟨S4x16x64x1, .f32⟩
  | 98 => ⟨S4x16x64x7, .f32⟩
  | 99 => ⟨S4x16x64x7, .f32⟩
  | 100 => ⟨S4x16x64x7, .f32⟩
  | 101 => ⟨S_, .f32⟩
  | 102 => ⟨S4x16x64, .f32⟩
  | 103 => ⟨S4x16x64x1, .f32⟩
  | 104 => ⟨S4x16x64x7, .f32⟩
  | 105 => ⟨S4x16x64x7, .f32⟩
  | 106 => ⟨S4x16x64x4096, .f32⟩
  | 107 => ⟨S2048, .i32⟩
  | 108 => ⟨S1x1x1x2048, .i32⟩
  | 109 => ⟨S_, .f32⟩
  | 110 => ⟨S4x16x64x2048, .f32⟩
  | 111 => ⟨S4x16x64x1, .i32⟩
  | 112 => ⟨S4x16x64x2048, .i32⟩
  | 113 => ⟨S4x16x64x2048, .i32⟩
  | 114 => ⟨S4x16x64x2048, .i32⟩
  | 115 => ⟨S_, .i32⟩
  | 116 => ⟨S4x16x64x2048, .i32⟩
  | 117 => ⟨S4x16x64x2048, .i1⟩
  | 118 => ⟨S_, .i32⟩
  | 119 => ⟨S4x16x64x2048, .i32⟩
  | 120 => ⟨S4x16x64x2048, .i32⟩
  | 121 => ⟨S4x16x64x2048, .i32⟩
  | 122 => ⟨S4x16x64x2048x1, .i32⟩
  | 123 => ⟨S4x16x64x2048, .f32⟩
  | 124 => ⟨S4x16x64x1, .f32⟩
  | 125 => ⟨S4x16x64x2048, .f32⟩
  | 126 => ⟨S4x16x64x2048, .f32⟩
  | 127 => ⟨S4x16x64x2048, .f32⟩
  | _ => ⟨S4x2048x16x64, .f32⟩

abbrev hbmTy0_1 (i : Nat) : BufTy := match i % 128 with
  | 0 => ⟨S4x16x64x1, .i32⟩
  | 1 => ⟨S4x16x64x2048, .i32⟩
  | 2 => ⟨S4x16x64x2048, .i32⟩
  | 3 => ⟨S4x16x64x2048, .i32⟩
  | 4 => ⟨S_, .i32⟩
  | 5 => ⟨S4x16x64x2048, .i32⟩
  | 6 => ⟨S4x16x64x2048, .i1⟩
  | 7 => ⟨S_, .i32⟩
  | 8 => ⟨S4x16x64x2048, .i32⟩
  | 9 => ⟨S4x16x64x2048, .i32⟩
  | 10 => ⟨S4x16x64x2048, .i32⟩
  | 11 => ⟨S4x16x64x2048x1, .i32⟩
  | 12 => ⟨S4x16x64x2048, .f32⟩
  | 13 => ⟨S4x16x64x1, .f32⟩
  | 14 => ⟨S4x16x64x2048, .f32⟩
  | 15 => ⟨S4x16x64x2048, .f32⟩
  | 16 => ⟨S4x16x64x2048, .f32⟩
  | 17 => ⟨S4x16x64x1, .i32⟩
  | 18 => ⟨S4x16x64x2048, .i32⟩
  | 19 => ⟨S4x16x64x2048, .i32⟩
  | 20 => ⟨S4x16x64x2048, .i32⟩
  | 21 => ⟨S_, .i32⟩
  | 22 => ⟨S4x16x64x2048, .i32⟩
  | 23 => ⟨S4x16x64x2048, .i1⟩
  | 24 => ⟨S_, .i32⟩
  | 25 => ⟨S4x16x64x2048, .i32⟩
  | 26 => ⟨S4x16x64x2048, .i32⟩
  | 27 => ⟨S4x16x64x2048, .i32⟩
  | 28 => ⟨S4x16x64x2048x1, .i32⟩
  | 29 => ⟨S4x16x64x2048, .f32⟩
  | 30 => ⟨S4x16x64x1, .f32⟩
  | 31 => ⟨S4x16x64x2048, .f32⟩
  | 32 => ⟨S4x16x64x2048, .f32⟩
  | 33 => ⟨S4x16x64x2048, .f32⟩
  | 34 => ⟨S4x16x64x1, .i32⟩
  | 35 => ⟨S4x16x64x2048, .i32⟩
  | 36 => ⟨S4x16x64x2048, .i32⟩
  | 37 => ⟨S4x16x64x2048, .i32⟩
  | 38 => ⟨S_, .i32⟩
  | 39 => ⟨S4x16x64x2048, .i32⟩
  | 40 => ⟨S4x16x64x2048, .i1⟩
  | 41 => ⟨S_, .i32⟩
  | 42 => ⟨S4x16x64x2048, .i32⟩
  | 43 => ⟨S4x16x64x2048, .i32⟩
  | 44 => ⟨S4x16x64x2048, .i32⟩
  | 45 => ⟨S4x16x64x2048x1, .i32⟩
  | 46 => ⟨S4x16x64x2048, .f32⟩
  | 47 => ⟨S4x16x64x1, .f32⟩
  | 48 => ⟨S4x16x64x2048, .f32⟩
  | 49 => ⟨S4x16x64x2048, .f32⟩
  | 50 => ⟨S4x16x64x2048, .f32⟩
  | 51 => ⟨S4x16x64x1, .i32⟩
  | 52 => ⟨S4x16x64x2048, .i32⟩
  | 53 => ⟨S4x16x64x2048, .i32⟩
  | 54 => ⟨S4x16x64x2048, .i32⟩
  | 55 => ⟨S_, .i32⟩
  | 56 => ⟨S4x16x64x2048, .i32⟩
  | 57 => ⟨S4x16x64x2048, .i1⟩
  | 58 => ⟨S_, .i32⟩
  | 59 => ⟨S4x16x64x2048, .i32⟩
  | 60 => ⟨S4x16x64x2048, .i32⟩
  | 61 => ⟨S4x16x64x2048, .i32⟩
  | 62 => ⟨S4x16x64x2048x1, .i32⟩
  | 63 => ⟨S4x16x64x2048, .f32⟩
  | 64 => ⟨S4x16x64x1, .f32⟩
  | 65 => ⟨S4x16x64x2048, .f32⟩
  | 66 => ⟨S4x16x64x2048, .f32⟩
  | 67 => ⟨S4x16x64x2048, .f32⟩
  | 68 => ⟨S4x16x64x1, .i32⟩
  | 69 => ⟨S4x16x64x2048, .i32⟩
  | 70 => ⟨S4x16x64x2048, .i32⟩
  | 71 => ⟨S4x16x64x2048, .i32⟩
  | 72 => ⟨S_, .i32⟩
  | 73 => ⟨S4x16x64x2048, .i32⟩
  | 74 => ⟨S4x16x64x2048, .i1⟩
  | 75 => ⟨S_, .i32⟩
  | 76 => ⟨S4x16x64x2048, .i32⟩
  | 77 => ⟨S4x16x64x2048, .i32⟩
  | 78 => ⟨S4x16x64x2048, .i32⟩
  | 79 => ⟨S4x16x64x2048x1, .i32⟩
  | 80 => ⟨S4x16x64x2048, .f32⟩
  | 81 => ⟨S4x16x64x1, .f32⟩
  | 82 => ⟨S4x16x64x2048, .f32⟩
  | 83 => ⟨S4x16x64x2048, .f32⟩
  | 84 => ⟨S4x16x64x2048, .f32⟩
  | 85 => ⟨S4x16x64x1, .i32⟩
  | 86 => ⟨S4x16x64x2048, .i32⟩
  | 87 => ⟨S4x16x64x2048, .i32⟩
  | 88 => ⟨S4x16x64x2048, .i32⟩
  | 89 => ⟨S_, .i32⟩
  | 90 => ⟨S4x16x64x2048, .i32⟩
  | 91 => ⟨S4x16x64x2048, .i1⟩
  | 92 => ⟨S_, .i32⟩
  | 93 => ⟨S4x16x64x2048, .i32⟩
  | 94 => ⟨S4x16x64x2048, .i32⟩
  | 95 => ⟨S4x16x64x2048, .i32⟩
  | 96 => ⟨S4x16x64x2048x1, .i32⟩
  | 97 => ⟨S4x16x64x2048, .f32⟩
  | 98 => ⟨S4x16x64x1, .f32⟩
  | 99 => ⟨S4x16x64x2048, .f32⟩
  | 100 => ⟨S4x16x64x2048, .f32⟩
  | 101 => ⟨S4x16x64x2048, .f32⟩
  | 102 => ⟨S4x2048x16x64, .f32⟩
  | _ => ⟨S4x2048x16x64, .f32⟩

abbrev hbmTy (i : Nat) : BufTy := match i / 128 with
  | 0 => hbmTy0_0 i
  | 1 => hbmTy0_1 i
  | _ => ⟨S4x2048x16x64, .f32⟩

abbrev bufTy : (tb : Table) → Fin (tcTables nBuf tb) → BufTy
  | .hbm, ⟨i, _⟩ => hbmTy i
  | _, _ => ⟨S4x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c_4 : Ref sig .tc := ⟨.hbm, 63, rfl⟩
abbrev main_v53 : Ref sig .tc := ⟨.hbm, 64, rfl⟩
abbrev main_v54 : Ref sig .tc := ⟨.hbm, 65, rfl⟩
abbrev main_c_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_values : Ref sig .tc := ⟨.hbm, 90, rfl⟩
abbrev main_indices : Ref sig .tc := ⟨.hbm, 91, rfl⟩
abbrev main_cst_9 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_12 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_call1_c : Ref sig .tc := ⟨.hbm, 115, rfl⟩
abbrev main_call1_v0 : Ref sig .tc := ⟨.hbm, 116, rfl⟩
abbrev main_call1_v1 : Ref sig .tc := ⟨.hbm, 117, rfl⟩
abbrev main_call1_c_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call2_c : Ref sig .tc := ⟨.hbm, 132, rfl⟩
abbrev main_call2_v0 : Ref sig .tc := ⟨.hbm, 133, rfl⟩
abbrev main_call2_v1 : Ref sig .tc := ⟨.hbm, 134, rfl⟩
abbrev main_call2_c_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call3_c : Ref sig .tc := ⟨.hbm, 149, rfl⟩
abbrev main_call3_v0 : Ref sig .tc := ⟨.hbm, 150, rfl⟩
abbrev main_call3_v1 : Ref sig .tc := ⟨.hbm, 151, rfl⟩
abbrev main_call3_c_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_call4_c_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_call5_c : Ref sig .tc := ⟨.hbm, 183, rfl⟩
abbrev main_call5_v0 : Ref sig .tc := ⟨.hbm, 184, rfl⟩
abbrev main_call5_v1 : Ref sig .tc := ⟨.hbm, 185, rfl⟩
abbrev main_call5_c_0 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_call5_v5 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call6_c : Ref sig .tc := ⟨.hbm, 200, rfl⟩
abbrev main_call6_v0 : Ref sig .tc := ⟨.hbm, 201, rfl⟩
abbrev main_call6_v1 : Ref sig .tc := ⟨.hbm, 202, rfl⟩
abbrev main_call6_c_0 : Ref sig .tc := ⟨.hbm, 203, rfl⟩
abbrev main_call6_v2 : Ref sig .tc := ⟨.hbm, 204, rfl⟩
abbrev main_call6_v3 : Ref sig .tc := ⟨.hbm, 205, rfl⟩
abbrev main_call6_v4 : Ref sig .tc := ⟨.hbm, 206, rfl⟩
abbrev main_call6_v5 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_call7_c : Ref sig .tc := ⟨.hbm, 217, rfl⟩
abbrev main_call7_v0 : Ref sig .tc := ⟨.hbm, 218, rfl⟩
abbrev main_call7_v1 : Ref sig .tc := ⟨.hbm, 219, rfl⟩
abbrev main_call7_c_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩

abbrev nD : Nat := 1
abbrev τ : Topo := Topo.v7x

variable {F : FTy → Type} [FloatOps F]
-- ==== Proof.Dft.lean ====
module

public import Mathlib.Analysis.SpecialFunctions.Complex.Log
public import Mathlib.Analysis.SpecialFunctions.Trigonometric.Basic
public import Mathlib.Algebra.BigOperators.Fin
public import Mathlib.Algebra.Field.GeomSum
public import Mathlib.Data.Complex.BigOperators

@[expose] public section

noncomputable section

/-! The discrete Fourier transform of length 2048, as sums over the complex unit circle, and the
    identities the two programs differ by. -/

namespace Cert.Math

open Complex

/-- The unit circle's point at `n` of 2048 steps. -/
def w (n : ℤ) : ℂ := Complex.exp ((2 * Real.pi * n / 2048 : ℝ) * Complex.I)

/-- Its real part is the cosine. -/
theorem w_re (n : ℤ) : (w n).re = Real.cos (2 * Real.pi * n / 2048) := by
  unfold w; rw [Complex.exp_ofReal_mul_I_re]

/-- Its imaginary part is the sine. -/
theorem w_im (n : ℤ) : (w n).im = Real.sin (2 * Real.pi * n / 2048) := by
  unfold w; rw [Complex.exp_ofReal_mul_I_im]

/-- No step is the point one. -/
theorem w_zero : w 0 = 1 := by simp [w]

/-- Steps add as points multiply. -/
theorem w_add (a b : ℤ) : w (a + b) = w a * w b := by
  unfold w; rw [← Complex.exp_add]; congr 1; push_cast; ring

/-- A whole turn is the point one. -/
theorem w_turn (a : ℤ) : w (2048 * a) = 1 := by
  unfold w
  rw [Complex.exp_eq_one_iff]
  exact ⟨a, by push_cast; ring⟩

/-- Whole turns may be dropped. -/
theorem w_congr {a b : ℤ} (h : (2048 : ℤ) ∣ a - b) : w a = w b := by
  obtain ⟨c, hc⟩ := h
  have : a = b + 2048 * c := by omega
  rw [this, w_add, w_turn, mul_one]

/-- The conjugate steps backwards. -/
theorem w_conj (n : ℤ) : (starRingEnd ℂ) (w n) = w (-n) := by
  apply Complex.ext
  · rw [Complex.conj_re, w_re, w_re]; push_cast
    rw [← Real.cos_neg]; congr 1; ring
  · rw [Complex.conj_im, w_im, w_im]; push_cast
    rw [← Real.sin_neg]; congr 1; ring

/-- Steps taken `k` times. -/
theorem w_mul_nat (a : ℤ) (k : ℕ) : w (a * k) = w a ^ k := by
  induction k with
  | zero => simp [w_zero]
  | succ k ih => push_cast; rw [mul_add, mul_one, w_add, ih, pow_succ]

/-- Only a whole number of turns is the point one. -/
theorem w_eq_one {a : ℤ} (h : w a = 1) : (2048 : ℤ) ∣ a := by
  unfold w at h
  rw [Complex.exp_eq_one_iff] at h
  obtain ⟨n, hn⟩ := h
  refine ⟨n, ?_⟩
  have hI : ((2 * Real.pi * a / 2048 : ℝ) : ℂ) = ((n * (2 * Real.pi) : ℝ) : ℂ) := by
    apply mul_right_cancel₀ Complex.I_ne_zero
    rw [hn]; push_cast; ring
  have h2 : (2 * Real.pi * a / 2048 : ℝ) = n * (2 * Real.pi) := Complex.ofReal_injective hI
  have hp := Real.pi_pos
  have : (a : ℝ) = 2048 * n := by
    have : 2 * Real.pi * (a - 2048 * n) = 0 := by linarith
    rcases mul_eq_zero.mp this with h | h
    · linarith
    · linarith
  exact_mod_cast this

/-- The circle's points at a fixed step sum to nothing unless the step is a whole number of turns. -/
theorem w_sum (a : ℤ) : ∑ f : Fin 2048, w (a * (f : ℕ)) = if (2048 : ℤ) ∣ a then 2048 else 0 := by
  simp only [w_mul_nat]
  rw [Fin.sum_univ_eq_sum_range (fun k => w a ^ k) 2048]
  split
  · rename_i h
    obtain ⟨c, rfl⟩ := h
    simp [w_turn]
  · rename_i h
    have h1 : w a ≠ 1 := fun e => h (w_eq_one e)
    rw [geom_sum_eq h1, ← w_mul_nat]
    have : w (a * ((2048 : ℕ) : ℤ)) = 1 := by
      rw [show a * ((2048 : ℕ) : ℤ) = 2048 * a by push_cast; ring, w_turn]
    rw [this]; simp

/-- The transform of a row at a frequency. -/
def dft (x : Fin 2048 → ℝ) (f : ℕ) : ℂ := ∑ t : Fin 2048, (x t : ℂ) * w (-((t : ℕ) * (f : ℕ) : ℤ))

/-- The inverse transform's real part at a time. -/
def idft (X : Fin 2048 → ℂ) (t : ℕ) : ℝ := (∑ f : Fin 2048, X f * w ((f : ℕ) * (t : ℕ) : ℤ)).re / 2048

/-- A row and a frequency backwards: the conjugate. -/
theorem dft_conj (x : Fin 2048 → ℝ) (f : ℕ) (hf : f ≤ 2048) :
    (starRingEnd ℂ) (dft x f) = dft x (2048 - f) := by
  unfold dft
  rw [map_sum]
  refine Finset.sum_congr rfl fun t _ => ?_
  rw [map_mul, Complex.conj_ofReal, w_conj]
  congr 1
  apply w_congr
  refine ⟨(t : ℕ), ?_⟩
  push_cast [hf]
  ring

/-- Circular correlation: the inverse transform of `dft v` by the conjugate of `dft g`. -/
theorem idft_corr (v g : Fin 2048 → ℝ) (t : ℕ) :
    idft (fun f => dft v f * (starRingEnd ℂ) (dft g f)) t
      = ∑ s : Fin 2048, g s * v ⟨(t + s) % 2048, Nat.mod_lt _ (by norm_num)⟩ := by
  unfold idft dft
  have key : ∑ f : Fin 2048, (∑ u : Fin 2048, (v u : ℂ) * w (-((u : ℕ) * ((f : ℕ) : ℕ) : ℤ)))
      * (starRingEnd ℂ) (∑ s : Fin 2048, (g s : ℂ) * w (-((s : ℕ) * ((f : ℕ) : ℕ) : ℤ))) * w ((f : ℕ) * (t : ℕ) : ℤ)
      = ∑ s : Fin 2048, ∑ u : Fin 2048, (g s : ℂ) * v u * ∑ f : Fin 2048, w (((t : ℤ) + s - u) * (f : ℕ)) := by
    simp only [Finset.mul_sum, Finset.sum_mul, map_sum, map_mul, Complex.conj_ofReal, w_conj]
    rw [Finset.sum_comm]
    refine Finset.sum_congr rfl fun s _ => ?_
    rw [Finset.sum_comm]
    refine Finset.sum_congr rfl fun u _ => Finset.sum_congr rfl fun f _ => ?_
    have : w (((t : ℤ) + s - u) * (f : ℕ)) = w (-((u : ℕ) * ((f : ℕ) : ℕ) : ℤ)) * w (- -((s : ℕ) * ((f : ℕ) : ℕ) : ℤ))
        * w ((f : ℕ) * (t : ℕ) : ℤ) := by
      rw [← w_add, ← w_add]; congr 1; push_cast; ring
    rw [this]; ring
  rw [key]
  have inner : ∀ s : Fin 2048, ∑ u : Fin 2048, (g s : ℂ) * v u * ∑ f : Fin 2048, w (((t : ℤ) + s - u) * (f : ℕ))
      = (g s : ℂ) * v ⟨(t + s) % 2048, Nat.mod_lt _ (by norm_num)⟩ * 2048 := by
    intro s
    rw [Finset.sum_eq_single (⟨(t + s) % 2048, Nat.mod_lt _ (by norm_num)⟩ : Fin 2048)]
    · rw [w_sum, if_pos]
      show (2048 : ℤ) ∣ (t : ℤ) + s - (((t + s) % 2048 : ℕ) : ℤ)
      omega
    · intro u _ hu
      rw [w_sum, if_neg, mul_zero]
      intro hd
      apply hu
      apply Fin.ext
      show (u : ℕ) = (t + s) % 2048
      have := u.isLt
      omega
    · intro h; exact absurd (Finset.mem_univ _) h
  simp only [inner]
  rw [← Finset.sum_mul, Complex.mul_re]
  have hre : (∑ s : Fin 2048, (g s : ℂ) * v ⟨(t + s) % 2048, Nat.mod_lt _ (by norm_num)⟩)
      = ((∑ s : Fin 2048, g s * v ⟨(t + s) % 2048, Nat.mod_lt _ (by norm_num)⟩ : ℝ) : ℂ) := by
    push_cast; rfl
  rw [hre, Complex.ofReal_re, Complex.ofReal_im]
  norm_num

/-- The band kept: everything but the constant and the alternating frequency. -/
def band (f : ℕ) : ℝ := if f = 0 ∨ f = 1024 then 0 else 1

/-- How often a frequency of the half spectrum stands in the whole. -/
def count (f : ℕ) : ℝ := if f = 0 ∨ f = 1024 then 1 else 2

/-- The band-passed correlation of two rows at a time, over the whole spectrum. -/
def corr (q k : Fin 2048 → ℝ) (t : ℕ) : ℝ :=
  idft (fun f => (band f : ℂ) * (dft q f * (starRingEnd ℂ) (dft k f))) t

/-- A sum over the whole spectrum whose terms are mirrored is twice the sum over the half. -/
theorem half_sum (h : ℕ → ℝ) (hm : ∀ f, 1 ≤ f → f < 1024 → h (2048 - f) = h f) (h0 : h 0 = 0) (h1 : h 1024 = 0) :
    ∑ f : Fin 2048, h f = ∑ f : Fin 1025, count f * h f := by
  rw [Fin.sum_univ_eq_sum_range h 2048, Fin.sum_univ_eq_sum_range (fun f => count f * h f) 1025]
  have e1 : ∑ f ∈ Finset.range 1025, count f * h f = 2 * ∑ f ∈ Finset.range 1025, h f := by
    rw [Finset.mul_sum]
    refine Finset.sum_congr rfl fun f _ => ?_
    unfold count
    split
    · rename_i hf
      rcases hf with rfl | rfl
      · rw [h0]; ring
      · rw [h1]; ring
    · rfl
  rw [e1, show (2048 : ℕ) = 1025 + 1023 from rfl, Finset.sum_range_add]
  have e2 : ∑ x ∈ Finset.range 1023, h (1025 + x) = ∑ f ∈ Finset.range 1025, h f := by
    have e3 : ∑ f ∈ Finset.range 1025, h f = ∑ f ∈ Finset.range 1023, h (f + 1) := by
      rw [Finset.sum_range_succ _ 1024, h1, add_zero, show (1024 : ℕ) = 1023 + 1 from rfl, Finset.sum_range_succ', h0, add_zero]
    rw [e3, ← Finset.sum_range_reflect]
    refine Finset.sum_congr rfl fun f hf => ?_
    have hf' := Finset.mem_range.mp hf
    rw [← hm (f + 1) (by omega) (by omega)]
    congr 1; omega
  rw [e2]; ring

/-- The correlation over the half spectrum, as cosines and sines. -/
theorem corr_half (q k : Fin 2048 → ℝ) (t : ℕ) :
    corr q k t = (∑ f : Fin 1025, (band f * (dft q f * (starRingEnd ℂ) (dft k f)).re * count f) * (w ((f : ℕ) * (t : ℕ) : ℤ)).re
      - ∑ f : Fin 1025, (band f * (dft q f * (starRingEnd ℂ) (dft k f)).im * count f) * (w ((f : ℕ) * (t : ℕ) : ℤ)).im) / 2048 := by
  unfold corr idft
  rw [← Finset.sum_sub_distrib]
  congr 1
  rw [Complex.re_sum]
  have := half_sum (fun f => ((band f : ℂ) * (dft q f * (starRingEnd ℂ) (dft k f)) * w ((f : ℕ) * (t : ℕ) : ℤ)).re)
    ?_ ?_ ?_
  · refine this.trans ?_
    refine Finset.sum_congr rfl fun f _ => ?_
    rw [Complex.mul_re, Complex.re_ofReal_mul, Complex.im_ofReal_mul]; ring
  · intro f h1 h2
    beta_reduce
    have hb : band (2048 - f) = band f := by
      unfold band; rw [if_neg (by omega), if_neg (by omega)]
    have hw : w (((2048 - f : ℕ) : ℤ) * (t : ℕ)) = (starRingEnd ℂ) (w ((f : ℕ) * (t : ℕ) : ℤ)) := by
      rw [w_conj]; apply w_congr; refine ⟨t, ?_⟩
      rw [Nat.cast_sub (by omega)]; push_cast; ring
    rw [hb, hw, ← dft_conj q f (by omega), ← dft_conj k f (by omega)]
    rw [← Complex.conj_ofReal (band f), ← map_mul, ← map_mul, ← map_mul, Complex.conj_re]
    rw [Complex.conj_ofReal]
  · simp [band]
  · simp [band]

/-- Times and frequencies in sixteen lanes of 128. -/
def at16 (i : Fin 16) (j : Fin 128) : Fin 2048 := ⟨128 * i + j, by omega⟩

/-- Frequencies, the fast index first. -/
def fr16 (a : Fin 16) (b : Fin 128) : Fin 2048 := ⟨16 * b + a, by omega⟩

/-- A sum over the times by lanes. -/
theorem sum_at16 {M : Type} [AddCommMonoid M] (h : Fin 2048 → M) : ∑ t, h t = ∑ i, ∑ j, h (at16 i j) := by
  rw [← Fintype.sum_prod_type', ← Equiv.sum_comp (finProdFinEquiv (m := 16) (n := 128))]
  refine Finset.sum_congr rfl fun p _ => ?_
  congr 1
  apply Fin.ext
  simp [at16, finProdFinEquiv]; ring

/-- A sum over the frequencies by the two indices. -/
theorem sum_fr16 {M : Type} [AddCommMonoid M] (h : Fin 2048 → M) : ∑ f, h f = ∑ a, ∑ b, h (fr16 a b) := by
  rw [Finset.sum_comm, ← Fintype.sum_prod_type', ← Equiv.sum_comp (finProdFinEquiv (m := 128) (n := 16))]
  refine Finset.sum_congr rfl fun p _ => ?_
  congr 1
  apply Fin.ext
  simp [fr16, finProdFinEquiv]; ring

/-- The four steps forward are the transform. -/
theorem four_fwd (x : Fin 2048 → ℝ) (a : Fin 16) (b : Fin 128) :
    ∑ j : Fin 128, ((∑ i : Fin 16, w (-(128 * (a : ℕ) * (i : ℕ) : ℤ)) * (x (at16 i j) : ℂ)) * w (-((a : ℕ) * (j : ℕ) : ℤ)))
        * w (-(16 * (j : ℕ) * (b : ℕ) : ℤ))
      = dft x (fr16 a b) := by
  unfold dft
  rw [sum_at16, Finset.sum_comm]
  refine Finset.sum_congr rfl fun j _ => ?_
  rw [Finset.sum_mul, Finset.sum_mul]
  refine Finset.sum_congr rfl fun i _ => ?_
  have : w (-(((at16 i j : Fin 2048) : ℕ) * ((fr16 a b : Fin 2048) : ℕ) : ℤ))
      = w (-(128 * (a : ℕ) * (i : ℕ) : ℤ)) * w (-((a : ℕ) * (j : ℕ) : ℤ)) * w (-(16 * (j : ℕ) * (b : ℕ) : ℤ)) := by
    rw [← w_add, ← w_add]
    apply w_congr
    refine ⟨-((i : ℕ) * (b : ℕ) : ℤ), ?_⟩
    simp only [at16, fr16]
    push_cast; ring
  rw [this]; ring

/-- The four steps back are the inverse transform's real part. -/
theorem four_inv (X : Fin 2048 → ℂ) (i : Fin 16) (j : Fin 128) :
    (∑ a : Fin 16, w (128 * (i : ℕ) * (a : ℕ) : ℤ) * ((∑ b : Fin 128, X (fr16 a b) * (w (16 * (b : ℕ) * (j : ℕ) : ℤ) / 2048))
        * w ((a : ℕ) * (j : ℕ) : ℤ))).re
      = idft X (at16 i j) := by
  unfold idft
  rw [sum_fr16, ← Complex.div_ofNat_re]
  congr 1
  rw [div_eq_mul_inv, Finset.sum_mul]
  refine Finset.sum_congr rfl fun a _ => ?_
  rw [Finset.sum_mul, Finset.sum_mul, Finset.mul_sum]
  refine Finset.sum_congr rfl fun b _ => ?_
  have : w (((fr16 a b : Fin 2048) : ℕ) * ((at16 i j : Fin 2048) : ℕ) : ℤ)
      = w (128 * (i : ℕ) * (a : ℕ) : ℤ) * w (16 * (b : ℕ) * (j : ℕ) : ℤ) * w ((a : ℕ) * (j : ℕ) : ℤ) := by
    rw [← w_add, ← w_add]
    apply w_congr
    refine ⟨((i : ℕ) * (b : ℕ) : ℤ), ?_⟩
    simp only [at16, fr16]
    push_cast; ring
  rw [this]; ring

end Cert.Math

end
-- ==== Proof.Blocks.lean ====
module

public import proofs.«01_k».proof.Proof.Gen.KernelIdeal.Skeleton
public import Idealize.ShloMosaic.Lib.Pointwise
public import proofs.«01_k».proof.Proof.Dft

@[expose] public section

noncomputable section

/-! The kernel's vector operations on blocks whose entries are real, complex numbers standing as two
    halves of one block. -/

namespace Cert.KernelIdeal.Val

open Idealize.ShloMosaic Cert.KernelIdeal.Gen

/-- A finite sum of reals, read among the extended reals. -/
theorem esum {ι : Type} [Fintype ι] (f : ι → ℝ) : ∑ i, ((f i : ℝ) : EReal) = ((∑ i, f i : ℝ) : EReal) := by
  classical
  refine Finset.induction_on (Finset.univ : Finset ι) (by simp) ?_
  intro a s ha ih
  rw [Finset.sum_insert ha, Finset.sum_insert ha, ih, EReal.coe_add]

/-- A block of reals. -/
def IsR (X : FVec Ideal S16x256x128 .f32) (x : Fin 16 → Fin 256 → Fin 128 → ℝ) : Prop :=
  ∀ i r j, X (ix3 i r j) = ((x i r j : ℝ) : EReal)

/-- A block of complex numbers, the imaginary parts behind the real parts along the first axis. -/
def IsP (X : FVec Ideal S32x256x128 .f32) (f : Fin 16 → Fin 256 → Fin 128 → ℂ) : Prop :=
  ∀ (a : Fin 16) r j, X (ix3 (⟨a, by omega⟩ : Fin 32) r j) = (((f a r j).re : ℝ) : EReal)
    ∧ X (ix3 (⟨16 + a, by omega⟩ : Fin 32) r j) = (((f a r j).im : ℝ) : EReal)

/-- A block of complex numbers, the imaginary parts behind the real parts along the lanes. -/
def IsL (X : FVec Ideal S16x256x256 .f32) (f : Fin 16 → Fin 256 → Fin 128 → ℂ) : Prop :=
  ∀ a r (j : Fin 128), X (ix3 a r (⟨j, by omega⟩ : Fin 256)) = (((f a r j).re : ℝ) : EReal)
    ∧ X (ix3 a r (⟨128 + j, by omega⟩ : Fin 256)) = (((f a r j).im : ℝ) : EReal)

/-- The table of the first step: real parts above imaginary parts. -/
def IsIn {φ : FTy} (W : FVec Ideal S32x16 φ) (u : Fin 16 → Fin 16 → ℂ) : Prop :=
  ∀ (a i : Fin 16), W (ix2 (⟨a, by omega⟩ : Fin 32) i) = (((u a i).re : ℝ) : EReal)
    ∧ W (ix2 (⟨16 + a, by omega⟩ : Fin 32) i) = (((u a i).im : ℝ) : EReal)

/-- The table of the lane step: a complex matrix as a real one of twice the size. -/
def IsBlk (W : FVec Ideal S256x256 .bf16) (u : Fin 128 → Fin 128 → ℂ) : Prop :=
  ∀ (j k : Fin 128), W (ix2 (⟨j, by omega⟩ : Fin 256) (⟨k, by omega⟩ : Fin 256)) = (((u j k).re : ℝ) : EReal)
    ∧ W (ix2 (⟨j, by omega⟩ : Fin 256) (⟨128 + k, by omega⟩ : Fin 256)) = (((u j k).im : ℝ) : EReal)
    ∧ W (ix2 (⟨128 + j, by omega⟩ : Fin 256) (⟨k, by omega⟩ : Fin 256)) = ((-(u j k).im : ℝ) : EReal)
    ∧ W (ix2 (⟨128 + j, by omega⟩ : Fin 256) (⟨128 + k, by omega⟩ : Fin 256)) = (((u j k).re : ℝ) : EReal)

/-- The table of the last step: the real part of a complex product. -/
def IsOut {φ : FTy} (W : FVec Ideal S16x32 φ) (u : Fin 16 → Fin 16 → ℂ) : Prop :=
  ∀ (i a : Fin 16), W (ix2 i (⟨a, by omega⟩ : Fin 32)) = (((u i a).re : ℝ) : EReal)
    ∧ W (ix2 i (⟨16 + a, by omega⟩ : Fin 32)) = ((-(u i a).im : ℝ) : EReal)

/-- A row of real factors for every block and lane. -/
def IsT (c : FVec Ideal S16x1x128 .f32) (t : Fin 16 → Fin 128 → ℝ) : Prop :=
  ∀ a j, c (ix3 a 0 j) = ((t a j : ℝ) : EReal)

/-- A table whose entries are all zero. -/
def IsZero {s : Shape} {φ : FTy} (W : FVec Ideal s φ) : Prop := ∀ i, W i = (0 : EReal)

section ops
variable {A B X : FVec Ideal S16x256x128 .f32} {x y : Fin 16 → Fin 256 → Fin 128 → ℝ}
  {P : FVec Ideal S32x256x128 .f32} {Q : FVec Ideal S16x256x256 .f32} {f g : Fin 16 → Fin 256 → Fin 128 → ℂ}

/-- The first half along the first axis. -/
theorem sliceP_re (h : IsP P f) :
    IsR (extractStridedSlice S16x256x128 ![0, 0, 0] P slices_S32x256x128_o0_0_0_S16x256x128) (fun a r j => (f a r j).re) := by
  intro i r j
  pointwise
  exact (h i r j).1

/-- The second half along the first axis. -/
theorem sliceP_im (h : IsP P f) :
    IsR (extractStridedSlice S16x256x128 ![16, 0, 0] P slices_S32x256x128_o16_0_0_S16x256x128) (fun a r j => (f a r j).im) := by
  intro i r j
  pointwise
  exact (h i r j).2

/-- The first half of the lanes. -/
theorem sliceL_re (h : IsL Q f) :
    IsR (extractStridedSlice S16x256x128 ![0, 0, 0] Q slices_S16x256x256_o0_0_0_S16x256x128) (fun a r j => (f a r j).re) := by
  intro i r j
  pointwise
  exact (h i r j).1

/-- The second half of the lanes. -/
theorem sliceL_im (h : IsL Q f) :
    IsR (extractStridedSlice S16x256x128 ![0, 0, 128] Q slices_S16x256x256_o0_0_128_S16x256x128) (fun a r j => (f a r j).im) := by
  intro i r j
  pointwise
  exact (h i r j).2

/-- Two halves joined along the lanes. -/
theorem joinL (hA : IsR A fun a r j => (f a r j).re) (hB : IsR B fun a r j => (f a r j).im) :
    IsL (concatenate S16x256x256 2 [⟨S16x256x128, A⟩, ⟨S16x256x128, B⟩] concatenates_S16x256x128_S16x256x128_S16x256x256_d2) f := by
  intro a r j
  constructor
  · pointwise
    exact hA a r j
  · pointwise
    first
      | exact hB a r j
      | (rw [dif_neg (by omega)]
         rw [show (⟨128 + (j : ℕ) - 128, by omega⟩ : Fin 128) = j from Fin.ext (by simp)]
         exact hB a r j)

/-- Two halves joined along the first axis. -/
theorem joinP (hA : IsR A fun a r j => (f a r j).re) (hB : IsR B fun a r j => (f a r j).im) :
    IsP (concatenate S32x256x128 0 [⟨S16x256x128, A⟩, ⟨S16x256x128, B⟩] concatenates_S16x256x128_S16x256x128_S32x256x128_d0) f := by
  intro a r j
  constructor
  · pointwise
    exact hA a r j
  · pointwise
    first
      | exact hB a r j
      | (rw [dif_neg (by omega)]
         rw [show (⟨16 + (a : ℕ) - 16, by omega⟩ : Fin 16) = a from Fin.ext (by simp)]
         exact hB a r j)

/-- A product of two blocks. -/
theorem mulR (hA : IsR A x) (hB : IsR B y) : IsR (mulf A B) fun a r j => x a r j * y a r j := by
  intro a r j
  pointwise
  rw [hA, hB, EReal.coe_mul]

/-- A sum of two blocks. -/
theorem addR (hA : IsR A x) (hB : IsR B y) : IsR (addf A B) fun a r j => x a r j + y a r j := by
  intro a r j
  pointwise
  rw [hA, hB, EReal.coe_add]

/-- A difference of two blocks. -/
theorem subR (hA : IsR A x) (hB : IsR B y) : IsR (subf A B) fun a r j => x a r j - y a r j := by
  intro a r j
  pointwise
  rw [hA, hB, EReal.coe_sub]

/-- A row of factors, repeated for every row of the block. -/
theorem rowR {c : FVec Ideal S16x1x128 .f32} {t : Fin 16 → Fin 128 → ℝ} (hc : IsT c t) :
    IsR (broadcastTo S16x256x128 c broadcasts_S16x1x128_S16x256x128) fun a _ j => t a j := by
  intro a r j
  pointwise
  exact hc a j

/-- Equal entries. -/
theorem IsR.congr (h : IsR X x) (e : ∀ a r j, x a r j = y a r j) : IsR X y := by
  intro a r j; rw [h, e]

/-- The real part of a product by a row of complex factors. -/
theorem twist_re {c s : FVec Ideal S16x1x128 .f32} {t : Fin 16 → Fin 128 → ℂ} (hA : IsR A fun a r j => (f a r j).re)
    (hB : IsR B fun a r j => (f a r j).im) (hc : IsT c fun a j => (t a j).re) (hs : IsT s fun a j => (t a j).im) :
    IsR (subf (mulf A (broadcastTo S16x256x128 c broadcasts_S16x1x128_S16x256x128))
      (mulf B (broadcastTo S16x256x128 s broadcasts_S16x1x128_S16x256x128))) fun a r j => (f a r j * t a j).re :=
  (subR (mulR hA (rowR hc)) (mulR hB (rowR hs))).congr fun a r j => by rw [Complex.mul_re]

/-- The imaginary part of a product by a row of complex factors. -/
theorem twist_im {c s : FVec Ideal S16x1x128 .f32} {t : Fin 16 → Fin 128 → ℂ} (hA : IsR A fun a r j => (f a r j).re)
    (hB : IsR B fun a r j => (f a r j).im) (hc : IsT c fun a j => (t a j).re) (hs : IsT s fun a j => (t a j).im) :
    IsR (addf (mulf A (broadcastTo S16x256x128 s broadcasts_S16x1x128_S16x256x128))
      (mulf B (broadcastTo S16x256x128 c broadcasts_S16x1x128_S16x256x128))) fun a r j => (f a r j * t a j).im :=
  (addR (mulR hA (rowR hs)) (mulR hB (rowR hc))).congr fun a r j => by rw [Complex.mul_im]

/-- The first step on a block of reals, in full precision. -/
theorem inP {W : FVec Ideal S32x16 .f32} {u : Fin 16 → Fin 16 → ℂ} (hW : IsIn W u) (hX : IsR X x) :
    IsP (matmul dot_S32x16_S16x256x128_S32x256x128_1_0_0_12_n_n (some .fp32) W X (constant S32x256x128 .f32 0x00000000#32))
      (fun a r j => ∑ i, u a i * (x i r j : ℂ)) := by
  intro a r j
  constructor
  · pointwise
    simp only [(hW _ _).1, hX _ _ _, ← EReal.coe_mul, esum, Complex.re_sum, Complex.re_mul_ofReal]
  · pointwise
    simp only [(hW _ _).2, hX _ _ _, ← EReal.coe_mul, esum, Complex.im_sum, Complex.im_mul_ofReal]

/-- The first step on a block of reals, in half precision. -/
theorem inP_half {W : FVec Ideal S32x16 .bf16} {u : Fin 16 → Fin 16 → ℂ} (hW : IsIn W u) (hX : IsR X x) :
    IsP (matmul dot_S32x16_S16x256x128_S32x256x128_1_0_0_12_n_n none W (truncf .bf16 X bitsLt_bf16_f32) (constant S32x256x128 .f32 0x00000000#32))
      (fun a r j => ∑ i, u a i * (x i r j : ℂ)) := by
  intro a r j
  constructor
  · pointwise
    simp only [(hW _ _).1, hX _ _ _, ← EReal.coe_mul, esum, Complex.re_sum, Complex.re_mul_ofReal]
  · pointwise
    simp only [(hW _ _).2, hX _ _ _, ← EReal.coe_mul, esum, Complex.im_sum, Complex.im_mul_ofReal]

/-- A sum over the lanes by halves. -/
theorem sum256 {M : Type} [AddCommMonoid M] (h : Fin 256 → M) :
    ∑ k, h k = ∑ j : Fin 128, h ⟨j, by omega⟩ + ∑ j : Fin 128, h ⟨128 + j, by omega⟩ :=
  Fin.sum_univ_add (a := 128) (b := 128) h

/-- A sum over the first axis by halves. -/
theorem sum32 {M : Type} [AddCommMonoid M] (h : Fin 32 → M) :
    ∑ k, h k = ∑ j : Fin 16, h ⟨j, by omega⟩ + ∑ j : Fin 16, h ⟨16 + j, by omega⟩ :=
  Fin.sum_univ_add (a := 16) (b := 16) h

/-- The lane step as sums. -/
theorem lane_sums {W : FVec Ideal S256x256 .bf16} {u : Fin 128 → Fin 128 → ℂ} (hW : IsBlk W u) (hQ : IsL Q f) (a : Fin 16) (r : Fin 256)
    (k : Fin 128) :
    ∑ l : Fin 256, Q (ix3 a r l) * W (ix2 l (⟨k, by omega⟩ : Fin 256)) = (((∑ j, f a r j * u j k).re : ℝ) : EReal)
      ∧ ∑ l : Fin 256, Q (ix3 a r l) * W (ix2 l (⟨128 + k, by omega⟩ : Fin 256)) = (((∑ j, f a r j * u j k).im : ℝ) : EReal) := by
  constructor
  · rw [sum256]
    simp only [(hQ _ _ _).1, (hQ _ _ _).2, (hW _ _).1, (hW _ _).2.2.1, ← EReal.coe_mul, esum, Complex.re_sum, Complex.mul_re,
      ← EReal.coe_add, ← Finset.sum_add_distrib]
    congr 1
    refine Finset.sum_congr rfl fun j _ => by ring
  · rw [sum256]
    simp only [(hQ _ _ _).1, (hQ _ _ _).2, (hW _ _).2.1, (hW _ _).2.2.2, ← EReal.coe_mul, esum, Complex.im_sum, Complex.mul_im,
      ← EReal.coe_add, ← Finset.sum_add_distrib]

/-- The lane step in half precision. -/
theorem laneL_half {W : FVec Ideal S256x256 .bf16} {u : Fin 128 → Fin 128 → ℂ} (hW : IsBlk W u) (hQ : IsL Q f) :
    IsL (shapeCast S16x256x256 (matmul dot_S4096x256_S256x256_S4096x256_1_0_0_1_n_n none
        (truncf .bf16 (shapeCast S4096x256 Q shapeCasts_S16x256x256_S4096x256) bitsLt_bf16_f32) W (constant S4096x256 .f32 0x00000000#32))
        shapeCasts_S4096x256_S16x256x256)
      (fun a r k => ∑ j, f a r j * u j k) := by
  intro a r k
  constructor
  · pointwise
    exact (lane_sums hW hQ a r k).1
  · pointwise
    exact (lane_sums hW hQ a r k).2

/-- A difference of a real from itself. -/
theorem sub_coe_self (a : ℝ) : (a : EReal) - (a : EReal) = 0 := by
  rw [← EReal.coe_sub, sub_self, EReal.coe_zero]

/-- Every entry of a block of complex numbers is real. -/
theorem IsL.sub_self (hQ : IsL Q f) (a : Fin 16) (r l : Fin 256) : Q (ix3 a r l) - Q (ix3 a r l) = (0 : EReal) := by
  rcases lt_or_ge l.val 128 with h | h
  · have := (hQ a r ⟨l, h⟩).1
    rw [show (⟨((⟨l, h⟩ : Fin 128) : ℕ), by omega⟩ : Fin 256) = l from Fin.ext rfl] at this
    rw [this, sub_coe_self]
  · have := (hQ a r ⟨l - 128, by omega⟩).2
    rw [show (⟨128 + ((⟨l - 128, by omega⟩ : Fin 128) : ℕ), by simp; omega⟩ : Fin 256) = l from Fin.ext (by simp; omega)] at this
    rw [this, sub_coe_self]

/-- The lane step in split precision: the low parts vanish. -/
theorem laneL {W W' : FVec Ideal S256x256 .bf16} {u : Fin 128 → Fin 128 → ℂ} (hW : IsBlk W u) (hW' : IsZero W') (hQ : IsL Q f) :
    IsL (shapeCast S16x256x256 (addf
        (matmul dot_S4096x256_S256x256_S4096x256_1_0_0_1_n_n none
          (truncf .bf16 (shapeCast S4096x256 Q shapeCasts_S16x256x256_S4096x256) bitsLt_bf16_f32) W (constant S4096x256 .f32 0x00000000#32))
        (addf
          (matmul dot_S4096x256_S256x256_S4096x256_1_0_0_1_n_n none
            (truncf .bf16 (shapeCast S4096x256 Q shapeCasts_S16x256x256_S4096x256) bitsLt_bf16_f32) W' (constant S4096x256 .f32 0x00000000#32))
          (matmul dot_S4096x256_S256x256_S4096x256_1_0_0_1_n_n none
            (truncf .bf16 (subf (shapeCast S4096x256 Q shapeCasts_S16x256x256_S4096x256)
              (extf .f32 (truncf .bf16 (shapeCast S4096x256 Q shapeCasts_S16x256x256_S4096x256) bitsLt_bf16_f32) bitsLt_bf16_f32)) bitsLt_bf16_f32)
            W (constant S4096x256 .f32 0x00000000#32))))
        shapeCasts_S4096x256_S16x256x256)
      (fun a r k => ∑ j, f a r j * u j k) := by
  intro a r k
  constructor
  · pointwise
    simp only [hW' _, hQ.sub_self, mul_zero, zero_mul, Finset.sum_const_zero, add_zero]
    exact (lane_sums hW hQ a r k).1
  · pointwise
    simp only [hW' _, hQ.sub_self, mul_zero, zero_mul, Finset.sum_const_zero, add_zero]
    exact (lane_sums hW hQ a r k).2

/-- The last step as sums. -/
theorem out_sums {φ : FTy} {W : FVec Ideal S16x32 φ} {u : Fin 16 → Fin 16 → ℂ} (hW : IsOut W u) (hP : IsP P f) (i : Fin 16) (r : Fin 256)
    (j : Fin 128) :
    ∑ l : Fin 32, (W (ix2 i l) : EReal) * P (ix3 l r j) = (((∑ a, u i a * f a r j).re : ℝ) : EReal) := by
  rw [sum32]
  simp only [(hP _ _ _).1, (hP _ _ _).2, (hW _ _).1, (hW _ _).2, ← EReal.coe_mul, esum, Complex.re_sum, Complex.mul_re,
      ← EReal.coe_add, ← Finset.sum_add_distrib]
  congr 1
  refine Finset.sum_congr rfl fun j _ => by ring

/-- The last step in full precision. -/
theorem outR {W : FVec Ideal S16x32 .f32} {u : Fin 16 → Fin 16 → ℂ} (hW : IsOut W u) (hP : IsP P f) :
    IsR (matmul dot_S16x32_S32x256x128_S16x256x128_1_0_0_12_n_n (some .fp32) W P (constant S16x256x128 .f32 0x00000000#32))
      (fun i r j => (∑ a, u i a * f a r j).re) := by
  intro i r j
  pointwise
  exact out_sums hW hP i r j

/-- The last step in half precision. -/
theorem outR_half {W : FVec Ideal S16x32 .bf16} {u : Fin 16 → Fin 16 → ℂ} (hW : IsOut W u) (hP : IsP P f) :
    IsR (matmul dot_S16x32_S32x256x128_S16x256x128_1_0_0_12_n_n none W (truncf .bf16 P bitsLt_bf16_f32) (constant S16x256x128 .f32 0x00000000#32))
      (fun i r j => (∑ a, u i a * f a r j).re) := by
  intro i r j
  pointwise
  exact out_sums hW hP i r j

/-- A table with its vanishing low part added. -/
theorem IsIn.add_zero {W W' : FVec Ideal S32x16 .bf16} {u : Fin 16 → Fin 16 → ℂ} (hW : IsIn W u) (hW' : IsZero W') :
    IsIn (addf (extf .f32 W bitsLt_bf16_f32) (extf .f32 W' bitsLt_bf16_f32)) u := by
  intro a i
  constructor
  · pointwise
    rw [hW' _, _root_.add_zero]
    exact (hW a i).1
  · pointwise
    rw [hW' _, _root_.add_zero]
    exact (hW a i).2

/-- A table with its vanishing low part added. -/
theorem IsOut.add_zero {W W' : FVec Ideal S16x32 .bf16} {u : Fin 16 → Fin 16 → ℂ} (hW : IsOut W u) (hW' : IsZero W') :
    IsOut (addf (extf .f32 W bitsLt_bf16_f32) (extf .f32 W' bitsLt_bf16_f32)) u := by
  intro a i
  constructor
  · pointwise
    rw [hW' _, _root_.add_zero]
    exact (hW a i).1
  · pointwise
    rw [hW' _, _root_.add_zero]
    exact (hW a i).2

end ops

end Cert.KernelIdeal.Val
end
-- ==== Proof.Fourier.lean ====
module

public import proofs.«01_k».proof.Proof.Blocks

@[expose] public section

noncomputable section

/-! The kernel's forward and inverse transforms of a block of rows. -/

namespace Cert.KernelIdeal.Val

open Idealize.ShloMosaic Cert.KernelIdeal.Gen Cert.Math

/-- The first step's factors, forward. -/
def uIn (a i : Fin 16) : ℂ := w (-(128 * (a : ℕ) * (i : ℕ) : ℤ))
/-- The factors between the steps, forward. -/
def uTw (a : Fin 16) (j : Fin 128) : ℂ := w (-((a : ℕ) * (j : ℕ) : ℤ))
/-- The lane step's factors, forward. -/
def uLane (j b : Fin 128) : ℂ := w (-(16 * (j : ℕ) * (b : ℕ) : ℤ))
/-- The lane step's factors, back. -/
def vLane (b j : Fin 128) : ℂ := w (16 * (b : ℕ) * (j : ℕ) : ℤ) / 2048
/-- The factors between the steps, back. -/
def vTw (a : Fin 16) (j : Fin 128) : ℂ := w ((a : ℕ) * (j : ℕ) : ℤ)
/-- The last step's factors, back. -/
def vOut (i a : Fin 16) : ℂ := w (128 * (i : ℕ) * (a : ℕ) : ℤ)

/-- A block holding 256 rows of 2048 times. -/
def IsRow (X : FVec Ideal S16x256x128 .f32) (x : Fin 256 → Fin 2048 → ℝ) : Prop := IsR X fun i r j => x r (at16 i j)

variable {A B X : FVec Ideal S16x256x128 .f32} {x : Fin 16 → Fin 256 → Fin 128 → ℝ} {q k : Fin 256 → Fin 2048 → ℝ}
  {f g : Fin 16 → Fin 256 → Fin 128 → ℂ} {P : FVec Ideal S32x256x128 .f32} {Q : FVec Ideal S16x256x256 .f32}
  {v1 v3 : FVec Ideal S32x16 .bf16} {v5 v7 v9 v11 : FVec Ideal S256x256 .bf16} {v17 v19 v21 v23 v24 : FVec Ideal S16x1x128 .f32}
  {v13 v15 : FVec Ideal S16x32 .bf16}

/-- Equal entries. -/
theorem IsL.congr (h : IsL Q f) (e : ∀ a r j, f a r j = g a r j) : IsL Q g := by
  intro a r j; rw [← e]; exact h a r j

/-- Equal entries. -/
theorem IsP.congr (h : IsP P f) (e : ∀ a r j, f a r j = g a r j) : IsP P g := by
  intro a r j; rw [← e]; exact h a r j

/-- A reshape to the same shape. -/
theorem castR (h : IsR X x) : IsR (shapeCast S16x256x128 X shapeCasts_S16x256x128_S16x256x128) x := by
  intro i r j
  pointwise
  exact h i r j

/-- The transform of the first operand's rows. -/
theorem pay15_fwd (h1 : IsIn v1 uIn) (h3 : IsZero v3) (h5 : IsBlk v5 uLane) (h7 : IsZero v7)
    (h17 : IsT v17 fun a j => (uTw a j).re) (h19 : IsT v19 fun a j => (uTw a j).im) (hX : IsRow X q) :
    IsL (k0_pay15 v1 v3 v5 v7 v17 v19 X) (fun a r b => dft (q r) (fr16 a b)) := by
  have hP := inP (h1.add_zero h3) (castR hX)
  refine (laneL h5 h7 (joinL (twist_re (sliceP_re hP) (sliceP_im hP) h17 h19) (twist_im (sliceP_re hP) (sliceP_im hP) h17 h19))).congr ?_
  intro a r b
  exact four_fwd (q r) a b

/-- The band's factor of a frequency. -/
def bandT (a : Fin 16) (b : Fin 128) : ℝ := band (fr16 a b)

/-- The inverse transform of a spectrum, before the last step. -/
def backIn (f : Fin 16 → Fin 256 → Fin 128 → ℂ) (a : Fin 16) (r : Fin 256) (j : Fin 128) : ℂ :=
  (∑ b, f a r b * vLane b j) * vTw a j

/-- The transform of the second operand's rows, the product with the first's conjugated spectrum, and the inverse
    transform up to its last step. -/
theorem pay23_back {X1 : FVec Ideal S16x256x128 .f32} (h1 : IsIn v1 uIn) (h3 : IsZero v3) (h5 : IsBlk v5 uLane) (h7 : IsZero v7)
    (h9 : IsBlk v9 vLane) (h11 : IsZero v11)
    (h17 : IsT v17 fun a j => (uTw a j).re) (h19 : IsT v19 fun a j => (uTw a j).im)
    (h21 : IsT v21 fun a j => (vTw a j).re) (h23 : IsT v23 fun a j => (vTw a j).im) (h24 : IsT v24 bandT)
    (hA : IsR A fun a r b => (dft (q r) (fr16 a b)).re) (hB : IsR B fun a r b => (dft (q r) (fr16 a b)).im) (hX : IsRow X1 k) :
    IsP (k0_pay23 v5 v7 v9 v11 v17 v21 v23 v24 A B (k0_pay20 v1 v3 X1) (k0_pay21 v1 v3 v17 v19 X1) (k0_pay22 v1 v3 v19 X1))
      (backIn fun a r b => (band (fr16 a b) : ℂ) * (dft (q r) (fr16 a b) * (starRingEnd ℂ) (dft (k r) (fr16 a b)))) := by
  have hP := inP (h1.add_zero h3) (castR hX)
  have hK := (laneL h5 h7 (joinL (twist_re (sliceP_re hP) (sliceP_im hP) h17 h19) (twist_im (sliceP_re hP) (sliceP_im hP) h17 h19))).congr
    fun a r b => four_fwd (k r) a b
  have hre := sliceL_re hK
  have him := sliceL_im hK
  have hr := mulR (addR (mulR hA hre) (mulR hB him)) (rowR h24)
  have hi := mulR (subR (mulR hB hre) (mulR hA him)) (rowR h24)
  have hL := laneL h9 h11 (joinL (f := fun a r b => (band (fr16 a b) : ℂ) * (dft (q r) (fr16 a b) * (starRingEnd ℂ) (dft (k r) (fr16 a b))))
    (hr.congr fun a r b => by
      rw [Complex.re_ofReal_mul, Complex.mul_re, Complex.conj_re, Complex.conj_im]; simp only [bandT]; ring)
    (hi.congr fun a r b => by
      rw [Complex.im_ofReal_mul, Complex.mul_im, Complex.conj_re, Complex.conj_im]; simp only [bandT]; ring))
  exact joinP (twist_re (sliceL_re hL) (sliceL_im hL) h21 h23) (twist_im (sliceL_re hL) (sliceL_im hL) h21 h23)

/-- The correlation of every row. -/
theorem pay26_corr (h13 : IsOut v13 vOut) (h15 : IsZero v15)
    (hP : IsP P (backIn fun a r b => (band (fr16 a b) : ℂ) * (dft (q r) (fr16 a b) * (starRingEnd ℂ) (dft (k r) (fr16 a b))))) :
    IsRow (k0_pay26 P (k0_pay24 v13) (k0_pay25 v15)) (fun r t => corr (q r) (k r) t) :=
  (outR (h13.add_zero h15) hP).congr fun i r j =>
    four_inv (fun f => (band f : ℂ) * (dft (q r) f * (starRingEnd ℂ) (dft (k r) f))) i j

/-- The two half-precision transforms and their product, from the rows of values and of weights: the weights'
    last term is added first. -/
theorem out_corr {Y : FVec Ideal S16x256x128 .f32} {v g : Fin 256 → Fin 2048 → ℝ} (h1 : IsIn v1 uIn) (h5 : IsBlk v5 uLane)
    (h9 : IsBlk v9 vLane) (h13 : IsOut v13 vOut)
    (h17 : IsT v17 fun a j => (uTw a j).re) (h19 : IsT v19 fun a j => (uTw a j).im)
    (h21 : IsT v21 fun a j => (vTw a j).re) (h23 : IsT v23 fun a j => (vTw a j).im)
    {v315 : IVec S16x256x128 1} {v316 : FVec Ideal S1x256x1 .f32}
    (hX : IsRow X v)
    (hG : IsRow (addf Y (select v315 (broadcastTo S16x256x128 (shapeCast S1x256x1 v316 shapeCasts_S1x256x1_S1x256x1) broadcasts_S1x256x1_S16x256x128)
      (broadcast S16x256x128 (Scalar.ofBits .f32 0x00000000#32)))) g) :
    IsRow (k0_pay1 v9 v13 v21 v23 (k0_pay62 v1 v5 v17 v19 X Y v315 v316))
      (fun r t => ∑ s : Fin 2048, g r s * v r ⟨(t + s) % 2048, Nat.mod_lt _ (by norm_num)⟩) := by
  have hV := inP_half h1 hX
  have hG' := inP_half h1 hG
  have hVL := (laneL_half h5 (joinL (twist_re (sliceP_re hV) (sliceP_im hV) h17 h19) (twist_im (sliceP_re hV) (sliceP_im hV) h17 h19))).congr
    fun a r b => four_fwd (v r) a b
  have hGL := (laneL_half h5 (joinL (twist_re (sliceP_re hG') (sliceP_im hG') h17 h19) (twist_im (sliceP_re hG') (sliceP_im hG') h17 h19))).congr
    fun a r b => four_fwd (g r) a b
  have hr := addR (mulR (sliceL_re hVL) (sliceL_re hGL)) (mulR (sliceL_im hVL) (sliceL_im hGL))
  have hi := subR (mulR (sliceL_im hVL) (sliceL_re hGL)) (mulR (sliceL_re hVL) (sliceL_im hGL))
  have hL := laneL_half h9 (joinL (f := fun a r b => dft (v r) (fr16 a b) * (starRingEnd ℂ) (dft (g r) (fr16 a b)))
    (hr.congr fun a r b => by simp only [Complex.mul_re, Complex.conj_re, Complex.conj_im]; ring)
    (hi.congr fun a r b => by simp only [Complex.mul_im, Complex.conj_re, Complex.conj_im]; ring))
  have hO := outR_half h13 (joinP (twist_re (sliceL_re hL) (sliceL_im hL) h21 h23) (twist_im (sliceL_re hL) (sliceL_im hL) h21 h23))
  refine hO.congr fun i r j => ?_
  exact (four_inv (fun f => dft (v r) f * (starRingEnd ℂ) (dft (g r) f)) i j).trans (idft_corr (v r) (g r) (at16 i j))

end Cert.KernelIdeal.Val
end
-- ==== Proof.TopK.lean ====
module

public import Idealize.ShloMosaic.Lib.SortFacts
public import Mathlib.Data.EReal.Basic

@[expose] public section

noncomputable section

/-! The first positions of a stable descending sort are what repeated "take the greatest, then strike it
    out" finds. -/

namespace Cert.Math

open Idealize.ShloMosaic

section sorted
variable {n : ℕ} {α : Type} [LinearOrder α] (c : Fin n → α) (before : Fin n → Fin n → Bool)
    (hb : ∀ k k', before k k' = true ↔ c k' < c k)

include hb in
/-- Inserting a position below every position of a list kept in stable descending order keeps the order. -/
theorem insert_ordered (a : Fin n) (l : List (Fin n)) (ha : ∀ b ∈ l, a < b)
    (hl : l.Pairwise fun x y => c y ≤ c x ∧ (c x = c y → x < y)) :
    (insertBefore before a l).Pairwise fun x y => c y ≤ c x ∧ (c x = c y → x < y) := by
  induction l with
  | nil => exact List.pairwise_singleton _ _
  | cons b l ih =>
    rw [List.pairwise_cons] at hl
    unfold insertBefore
    split
    · rename_i h
      have h' := (hb b a).mp h
      refine List.pairwise_cons.mpr ⟨fun y hy => ?_, ih (fun b' hb' => ha b' (List.mem_cons_of_mem _ hb')) hl.2⟩
      rcases List.mem_cons.mp ((perm_insertBefore before a l).mem_iff.mp hy) with rfl | hy'
      · exact ⟨h'.le, fun e => absurd e h'.ne'⟩
      · exact hl.1 y hy'
    · rename_i h
      have h' : ¬ c a < c b := fun e => h ((hb b a).mpr e)
      refine List.pairwise_cons.mpr ⟨fun y hy => ?_, List.pairwise_cons.mpr hl⟩
      refine ⟨?_, fun _ => ha y hy⟩
      rcases List.mem_cons.mp hy with rfl | hy'
      · exact not_lt.mp h'
      · exact (hl.1 y hy').1.trans (not_lt.mp h')

include hb in
/-- A stable descending sort of an increasing list is in stable descending order. -/
theorem stableSort_ordered (l : List (Fin n)) (hl : l.Pairwise (· < ·)) :
    (stableSort before l).Pairwise fun x y => c y ≤ c x ∧ (c x = c y → x < y) := by
  induction l with
  | nil => exact List.Pairwise.nil
  | cons a l ih =>
    rw [List.pairwise_cons] at hl
    unfold stableSort
    exact insert_ordered c before hb a _ (fun b hb' => hl.1 b ((perm_stableSort before l).mem_iff.mp hb')) (ih hl.2)

include hb in
/-- The sorting permutation of a stable descending sort: values fall, equal values in index order. -/
theorem sortedFrom_ordered (i j : Fin n) (hij : i < j) :
    c (sortedFrom before j) ≤ c (sortedFrom before i)
      ∧ (c (sortedFrom before i) = c (sortedFrom before j) → sortedFrom before i < sortedFrom before j) := by
  have hp : ∀ a b : Fin (sortPositions n before).length, a < b →
      c ((sortPositions n before).get b) ≤ c ((sortPositions n before).get a)
        ∧ (c ((sortPositions n before).get a) = c ((sortPositions n before).get b) →
          (sortPositions n before).get a < (sortPositions n before).get b) :=
    List.pairwise_iff_get.mp (stableSort_ordered c before hb (List.finRange n) (List.pairwise_lt_finRange n))
  unfold sortedFrom
  exact hp _ _ (by simp only [Fin.lt_def, Fin.val_cast]; exact hij)

end sorted

/-- The stable descending order of a real row. -/
def rank (c : Fin 2048 → ℝ) : Fin 2048 → Fin 2048 := sortedFrom (fun k k' => decide (c k' < c k))

/-- Values fall along the order, equal values standing in index order. -/
theorem rank_ordered (c : Fin 2048 → ℝ) {i j : Fin 2048} (hij : i < j) :
    c (rank c j) ≤ c (rank c i) ∧ (c (rank c i) = c (rank c j) → rank c i < rank c j) :=
  sortedFrom_ordered c _ (fun k k' => by simp) i j hij

/-- The order names each position once. -/
theorem rank_injective (c : Fin 2048 → ℝ) : Function.Injective (rank c) := sortedFrom_injective _

/-- The order names each position. -/
theorem rank_surjective (c : Fin 2048 → ℝ) : Function.Surjective (rank c) := sortedFrom_surjective _

/-- The row with its first `n` positions in the order struck out. -/
def struck (c : Fin 2048 → ℝ) (n : ℕ) (t : Fin 2048) : EReal :=
  if ∃ m : Fin 2048, m.val < n ∧ rank c m = t then ⊥ else (c t : EReal)

/-- Nothing struck out. -/
theorem struck_zero (c : Fin 2048 → ℝ) (t : Fin 2048) : struck c 0 t = (c t : EReal) := by
  unfold struck; rw [if_neg]; rintro ⟨m, hm, _⟩; omega

/-- The position of order `n` is not yet struck out after `n` rounds. -/
theorem struck_rank (c : Fin 2048 → ℝ) (n : Fin 2048) : struck c n (rank c n) = (c (rank c n) : EReal) := by
  unfold struck; rw [if_neg]
  rintro ⟨m, hm, e⟩
  exact absurd (rank_injective c e) (by intro h; rw [h] at hm; exact lt_irrefl _ hm)

/-- It is the greatest of the row left. -/
theorem struck_le (c : Fin 2048 → ℝ) (n : Fin 2048) (t : Fin 2048) : struck c n t ≤ (c (rank c n) : EReal) := by
  obtain ⟨m, rfl⟩ := rank_surjective c t
  unfold struck
  split
  · exact bot_le
  · rename_i h
    rw [EReal.coe_le_coe_iff]
    rcases lt_trichotomy m n with hm | rfl | hm
    · exact absurd ⟨m, hm, rfl⟩ h
    · exact le_rfl
    · exact (rank_ordered c hm).1

/-- And the first of those as great. -/
theorem struck_first (c : Fin 2048 → ℝ) (n : Fin 2048) (t : Fin 2048) (ht : (c (rank c n) : EReal) ≤ struck c n t) :
    rank c n ≤ t := by
  obtain ⟨m, rfl⟩ := rank_surjective c t
  unfold struck at ht
  split at ht
  · exact absurd ht (by simp)
  · rename_i h
    rw [EReal.coe_le_coe_iff] at ht
    rcases lt_trichotomy m n with hm | rfl | hm
    · exact absurd ⟨m, hm, rfl⟩ h
    · exact le_rfl
    · have := rank_ordered c hm
      exact (this.2 (le_antisymm ht this.1)).le

/-- Striking it out is the next row. -/
theorem struck_succ (c : Fin 2048 → ℝ) (n : Fin 2048) (t : Fin 2048) :
    struck c (n + 1) t = if t = rank c n then ⊥ else struck c n t := by
  unfold struck
  by_cases h : t = rank c n
  · rw [if_pos h, if_pos ⟨n, Nat.lt_succ_self _, h.symm⟩]
  · rw [if_neg h]
    congr 1
    apply propext
    constructor
    · rintro ⟨m, hm, e⟩
      refine ⟨m, ?_, e⟩
      rcases Nat.lt_succ_iff_lt_or_eq.mp hm with h1 | h1
      · exact h1
      · exact absurd (show t = rank c n from e.symm.trans (congrArg (rank c) (Fin.ext h1))) h
    · rintro ⟨m, hm, e⟩
      exact ⟨m, Nat.lt_succ_of_lt hm, e⟩

end Cert.Math

end
-- ==== Proof.Rounds.lean ====
module

public import proofs.«01_k».proof.Proof.Fourier
public import proofs.«01_k».proof.Proof.TopK

@[expose] public section

noncomputable section

/-! The kernel's seven rounds: the largest entry left, its first place, and the entry struck out. -/

namespace Cert.KernelIdeal.Val

open Idealize.ShloMosaic Cert.KernelIdeal.Gen Cert.Math

/-- The largest entry of a row, as the kernel takes it. -/
def top (X : FVec Ideal S16x256x128 .f32) : FVec Ideal S1x256x1 .f32 :=
  shapeCast S1x256x1 (multiReduction .maximumf [2] S1x256 (shapeCast S1x256x128 (multiReduction .maximumf [0] S256x128 X 0xFF800000#32
    reduces_S16x256x128_S256x128 (.inl rfl) rfl) shapeCasts_S256x128_S1x256x128) 0xFF800000#32 reduces_S1x256x128_S1x256 (.inl rfl) rfl)
    shapeCasts_S1x256_S1x256x1

/-- The first place of a row that reaches the given entry, as the kernel finds it. -/
def place (I : IVec S16x256x128 32) (X M : FVec Ideal S16x256x128 .f32) : IVec S1x256x1 32 :=
  shapeCast S1x256x1 (multiReductionI .minsi [2] S1x256 (shapeCast S1x256x128 (multiReductionI .minsi [0] S256x128
    (select (cmpf .oge X M) I (broadcast S16x256x128 2048#32)) 2147483647#32
    reduces_S16x256x128_S256x128 rfl) shapeCasts_S256x128_S1x256x128) 2147483647#32 reduces_S1x256x128_S1x256 rfl)
    shapeCasts_S1x256_S1x256x1

/-- One entry copied along its row. -/
def alongF (M : FVec Ideal S1x256x1 .f32) : FVec Ideal S16x256x128 .f32 := broadcastTo S16x256x128 M broadcasts_S1x256x1_S16x256x128

/-- One place copied along its row. -/
def alongI (J : IVec S1x256x1 32) : IVec S16x256x128 32 := broadcastTo S16x256x128 J broadcasts_S1x256x1_S16x256x128

/-- One place of every row struck out. -/
def strike (I : IVec S16x256x128 32) (X : FVec Ideal S16x256x128 .f32) (J : IVec S1x256x1 32) : FVec Ideal S16x256x128 .f32 :=
  select (cmpi .eq I (alongI J)) (broadcast S16x256x128 (Named.named κ "mask" 0xF149F2CA#32)) X

/-- A row with its first `n` ranks struck out. -/
def IsStruck (X : FVec Ideal S16x256x128 .f32) (c : Fin 256 → Fin 2048 → ℝ) (n : ℕ) : Prop :=
  ∀ i r j, X (ix3 i r j) = struck (c r) n (at16 i j)

/-- One real number for every row. -/
def IsV (M : FVec Ideal S1x256x1 .f32) (x : Fin 256 → ℝ) : Prop := ∀ r, M (ix3 0 r 0) = ((x r : ℝ) : EReal)

/-- One time for every row. -/
def IsJ (J : IVec S1x256x1 32) (x : Fin 256 → Fin 2048) : Prop := ∀ r, J (ix3 0 r 0) = BitVec.ofNat 32 (x r)

variable {X M : FVec Ideal S16x256x128 .f32} {J : IVec S1x256x1 32} {m : FVec Ideal S1x256x1 .f32} {c : Fin 256 → Fin 2048 → ℝ}

/-- Every time stands at some place of a block. -/
theorem at16_surj (t : Fin 2048) : ∃ i j, at16 i j = t := by
  refine ⟨⟨t / 128, by omega⟩, ⟨t % 128, by omega⟩, ?_⟩
  apply Fin.ext
  show 128 * ((t : ℕ) / 128) + (t : ℕ) % 128 = t
  omega

/-- The word of minus infinity. -/
theorem ofBits_bot : Ideal.ofBits .f32 4286578688#32 = (⊥ : EReal) := by
  simp [Ideal.ofBits, Ideal.ieee]

/-- The largest entry left is the entry of the next rank. -/
theorem top_struck (k : ℕ) (hk : k < 2048) (h : IsStruck X c k) : IsV (top X) fun r => c r (rank (c r) ⟨k, hk⟩) := by
  intro r
  unfold top
  pointwise
  rw [ofBits_bot]
  simp only [h _ r _]
  obtain ⟨i, j, hij⟩ := at16_surj (rank (c r) ⟨k, hk⟩)
  apply le_antisymm
  · rw [Finset.fold_max_le]
    refine ⟨bot_le, fun a _ => ?_⟩
    rw [Finset.fold_max_le]
    exact ⟨bot_le, fun b _ => struck_le _ ⟨k, hk⟩ _⟩
  · rw [Finset.le_fold_max]
    refine Or.inr ⟨j, Finset.mem_univ _, ?_⟩
    rw [Finset.le_fold_max]
    refine Or.inr ⟨i, Finset.mem_univ _, ?_⟩
    rw [hij, struck_rank (c r) ⟨k, hk⟩]

/-- The signed value of the smaller of two words. -/
theorem toInt_minsi (x y : BitVec 32) : (IntOp.minsi x y).toInt = min x.toInt y.toInt := by
  unfold IntOp.minsi
  rw [BitVec.slt]
  by_cases h : x.toInt < y.toInt
  · rw [if_pos (by simpa using h), min_eq_left h.le]
  · rw [if_neg (by simpa using h), min_eq_right (by omega)]

/-- The signed value of a small word. -/
theorem toInt_small {k : ℕ} (h : k ≤ 2048) : (BitVec.ofNat 32 k).toInt = (k : ℤ) := by
  rw [BitVec.toInt_eq_toNat_of_lt] <;> simp only [BitVec.toNat_ofNat] <;> omega

/-- The kernel's numbering of a block's places. -/
theorem iota_at16 (i : Fin 16) (r : Fin 256) (j : Fin 128) : k0_pay27 (ix3 i r j) = BitVec.ofNat 32 (at16 i j) := by
  have e : k0_pay27 (ix3 i r j) = IntOp.addi (IntOp.muli (BitVec.ofNat 32 i) 128#32) (BitVec.ofNat 32 j) := by
    pointwise [k0_pay27]
  rw [e]
  show BitVec.ofNat 32 i * 128#32 + BitVec.ofNat 32 j = _
  have : ((at16 i j : Fin 2048) : ℕ) = (i : ℕ) * 128 + j := by show 128 * (i : ℕ) + j = _; omega
  rw [this, BitVec.ofNat_add, BitVec.ofNat_mul]

/-- The first place that reaches the largest entry is the place of the next rank. -/
theorem place_struck (k : ℕ) (hk : k < 2048) (h : IsStruck X c k) (hM : IsV m fun r => c r (rank (c r) ⟨k, hk⟩)) :
    IsJ (place k0_pay27 X (alongF m)) fun r => rank (c r) ⟨k, hk⟩ := by
  intro r
  apply BitVec.eq_of_toInt_eq
  unfold place alongF
  pointwise
  rw [toInt_small (by have := (rank (c r) ⟨k, hk⟩).isLt; omega), ← Finset.fold_hom (m := BitVec.toInt) toInt_minsi]
  have inner : ∀ x : Fin 128, (Finset.fold IntOp.minsi (2147483647#32)
      (fun y : Fin 16 => if m (ix3 0 r 0) ≤ X (ix3 y r x) then k0_pay27 (ix3 y r x) else 2048#32) Finset.univ).toInt =
      Finset.fold min (2147483647 : ℤ) (fun y : Fin 16 => if (c r (rank (c r) ⟨k, hk⟩) : EReal) ≤ struck (c r) k (at16 y x) then ((at16 y x : Fin 2048) : ℤ) else 2048) Finset.univ := by
    intro x
    rw [← Finset.fold_hom (m := BitVec.toInt) toInt_minsi]
    have e : ∀ y : Fin 16, (if m (ix3 0 r 0) ≤ X (ix3 y r x) then k0_pay27 (ix3 y r x) else 2048#32).toInt =
        if (c r (rank (c r) ⟨k, hk⟩) : EReal) ≤ struck (c r) k (at16 y x) then ((at16 y x : Fin 2048) : ℤ) else 2048 := by
      intro y
      rw [hM r, h y r x, iota_at16]
      split
      · exact toInt_small (by have := (at16 y x).isLt; omega)
      · rfl
    simp only [e]
    rfl
  simp only [inner]
  obtain ⟨i, j, hij⟩ := at16_surj (rank (c r) ⟨k, hk⟩)
  have small : ((rank (c r) ⟨k, hk⟩ : Fin 2048) : ℤ) < 2048 := by exact_mod_cast (rank (c r) ⟨k, hk⟩).isLt
  apply le_antisymm
  · rw [Finset.fold_min_le]
    refine Or.inr ⟨j, Finset.mem_univ _, ?_⟩
    rw [Finset.fold_min_le]
    refine Or.inr ⟨i, Finset.mem_univ _, ?_⟩
    rw [hij, struck_rank (c r) ⟨k, hk⟩, if_pos le_rfl]
  · rw [Finset.le_fold_min]
    refine ⟨by show _ ≤ (2147483647 : ℤ); omega, fun x _ => ?_⟩
    rw [Finset.le_fold_min]
    refine ⟨by omega, fun y _ => ?_⟩
    split
    · rename_i ht
      exact_mod_cast struck_first (c r) ⟨k, hk⟩ _ ht
    · omega

/-- The choice by an equality of two times' words. -/
theorem pick_word {α : Type} (t u : Fin 2048) (x y : α) :
    Scalar.select (IntOp.cmpi CmpIPredicate.eq (BitVec.ofNat 32 t) (BitVec.ofNat 32 u)) x y = if t = u then x else y := by
  have e : (BitVec.ofNat 32 t = BitVec.ofNat 32 u) ↔ t = u := by
    constructor
    · intro h
      have := congrArg BitVec.toNat h
      simp only [BitVec.toNat_ofNat] at this
      apply Fin.ext
      omega
    · rintro rfl; rfl
  by_cases h : t = u
  · rw [if_pos h, h]
    simp [Scalar.select, IntOp.cmpi]
  · rw [if_neg h]
    have : ¬ BitVec.ofNat 32 (t : ℕ) = BitVec.ofNat 32 (u : ℕ) := fun k => h (e.mp k)
    simp [Scalar.select, IntOp.cmpi, beq_eq_false_iff_ne.mpr this]

/-- Striking the place out. -/
theorem strike_struck (k : ℕ) (hk : k < 2048) (h : IsStruck X c k) (hJ : IsJ J fun r => rank (c r) ⟨k, hk⟩) :
    IsStruck (strike k0_pay27 X J) c (k + 1) := by
  intro i r j
  unfold strike alongI
  pointwise
  rw [h i r j, hJ r, iota_at16, struck_succ (c r) ⟨k, hk⟩]
  rw [pick_word]
  rfl

/-- A row's weight put at one place, zero elsewhere. -/
def gate (J : IVec S1x256x1 32) (m : FVec Ideal S1x256x1 .f32) : FVec Ideal S16x256x128 .f32 :=
  select (cmpi .eq k0_pay27 (alongI J)) (broadcastTo S16x256x128 (shapeCast S1x256x1 m shapeCasts_S1x256x1_S1x256x1) broadcasts_S1x256x1_S16x256x128)
    (broadcast S16x256x128 (Scalar.ofBits .f32 0x00000000#32))

/-- A gated weight's entries. -/
theorem gate_row {x : Fin 256 → Fin 2048} {a : Fin 256 → ℝ} (hJ : IsJ J x) (hm : IsV m a) :
    IsRow (gate J m) fun r t => if t = x r then a r else 0 := by
  intro i r j
  unfold gate alongI
  pointwise
  rw [hJ r, iota_at16, hm r, pick_word]
  split <;> simp

/-- A weight: the exponential of a difference. -/
theorem exp_sub {m m' : FVec Ideal S1x256x1 .f32} {a b : Fin 256 → ℝ} (h : IsV m a) (h' : IsV m' b) :
    IsV (exp (subf m m')) fun r => Real.exp (a r - b r) := by
  intro r
  pointwise
  rw [h r, h' r, ← EReal.coe_sub]
  rfl

/-- A sum for every row. -/
theorem addV {m m' : FVec Ideal S1x256x1 .f32} {a b : Fin 256 → ℝ} (h : IsV m a) (h' : IsV m' b) :
    IsV (addf m m') fun r => a r + b r := by
  intro r
  pointwise
  rw [h r, h' r, EReal.coe_add]

/-- A weight times the reciprocal of the weights' sum. -/
theorem share {m m' : FVec Ideal S1x256x1 .f32} {a b : Fin 256 → ℝ} (h : IsV m a) (h' : IsV m' b) (hb : ∀ r, b r ≠ 0) :
    IsV (mulf m (k0_pay58 m' k0_pay57)) fun r => a r / b r := by
  intro r
  pointwise [k0_pay58, k0_pay57]
  rw [h r, h' r, Ideal.div_coe (hb r), one_mul, ← EReal.coe_mul, mul_one_div]

/-- The row of zeros. -/
theorem zero_row : IsRow (broadcast S16x256x128 (Scalar.ofBits .f32 0x00000000#32) : FVec Ideal S16x256x128 .f32) fun _ _ => 0 := by
  intro i r j
  pointwise
  rfl

/-- The time of a rank, counted from the largest correlation. -/
abbrev rk (c : Fin 2048 → ℝ) (k : ℕ) (hk : k < 2048 := by decide) : Fin 2048 := rank c ⟨k, hk⟩

/-- One rank's weight before the weights are made to sum to one. -/
def wt (c : Fin 2048 → ℝ) (k : ℕ) (hk : k < 2048 := by decide) : ℝ := Real.exp (c (rk c k hk) - c (rk c 0))

/-- The sum of the seven weights. -/
def total (c : Fin 2048 → ℝ) : ℝ := wt c 0 + wt c 1 + wt c 2 + wt c 3 + wt c 4 + wt c 5 + wt c 6

/-- The seven weights' sum is positive. -/
theorem total_pos (c : Fin 2048 → ℝ) : 0 < total c := by
  unfold total wt
  positivity

/-- The time a delay later, around the end. -/
def later (t s : Fin 2048) : Fin 2048 := ⟨((t : ℕ) + s) % 2048, Nat.mod_lt _ (by norm_num)⟩

/-- The values at the seven best delays, weighted. -/
def att (c v : Fin 2048 → ℝ) (t : Fin 2048) : ℝ :=
  wt c 0 / total c * v (later t (rk c 0)) + wt c 1 / total c * v (later t (rk c 1)) + wt c 2 / total c * v (later t (rk c 2)) +
    wt c 3 / total c * v (later t (rk c 3)) + wt c 4 / total c * v (later t (rk c 4)) + wt c 5 / total c * v (later t (rk c 5)) +
    wt c 6 / total c * v (later t (rk c 6))

/-- A weight put at one place sums to that place's value. -/
theorem gate_sum (x t : Fin 2048) (a : ℝ) (v : Fin 2048 → ℝ) :
    ∑ s : Fin 2048, (if s = x then a else 0) * v (later t s) = a * v (later t x) := by
  simp only [ite_mul, zero_mul, Finset.sum_ite_eq', Finset.mem_univ, if_true]

/-- The block the kernel stores, from the correlation's block and the values' block. -/
theorem body_att {P : FVec Ideal S32x256x128 .f32} {a b : FVec Ideal S16x32 .f32}
    {v1 : FVec Ideal S32x16 .bf16} {v5 v9 : FVec Ideal S256x256 .bf16} {v17 v19 v21 v23 : FVec Ideal S16x1x128 .f32}
    {v13 : FVec Ideal S16x32 .bf16} {V : FVec Ideal S16x256x128 .f32} {v : Fin 256 → Fin 2048 → ℝ}
    (h1 : IsIn v1 uIn) (h5 : IsBlk v5 uLane) (h9 : IsBlk v9 vLane) (h13 : IsOut v13 vOut)
    (h17 : IsT v17 fun a j => (uTw a j).re) (h19 : IsT v19 fun a j => (uTw a j).im)
    (h21 : IsT v21 fun a j => (vTw a j).re) (h23 : IsT v23 fun a j => (vTw a j).im)
    (hV : IsRow V v) (hC : IsRow (k0_pay26 P a b) c) :
    IsRow (k0_pay1 v9 v13 v21 v23 (k0_pay62 v1 v5 v17 v19 V
      (k0_pay59 k0_pay27 (k0_pay29 P a b) (k0_pay32 P a b) (k0_pay36 k0_pay27 (k0_pay33 P a b) (k0_pay35 P a b))
        (k0_pay39 k0_pay27 (k0_pay33 P a b) (k0_pay35 P a b)) (k0_pay42 k0_pay27 (k0_pay33 P a b) (k0_pay35 P a b))
        (k0_pay45 k0_pay27 (k0_pay43 k0_pay27 (k0_pay33 P a b) (k0_pay35 P a b)))
        (k0_pay49 (k0_pay28 P a b)) (k0_pay50 (k0_pay28 P a b) (k0_pay31 P a b)) (k0_pay51 (k0_pay28 P a b) (k0_pay34 P a b))
        (k0_pay52 (k0_pay28 P a b) (k0_pay38 k0_pay27 (k0_pay33 P a b) (k0_pay35 P a b)))
        (k0_pay53 (k0_pay28 P a b) (k0_pay41 k0_pay27 (k0_pay33 P a b) (k0_pay35 P a b)))
        (k0_pay54 (k0_pay28 P a b) (k0_pay43 k0_pay27 (k0_pay33 P a b) (k0_pay35 P a b)))
        (k0_pay56 k0_pay27 (k0_pay28 P a b) (k0_pay31 P a b) (k0_pay34 P a b) (k0_pay38 k0_pay27 (k0_pay33 P a b) (k0_pay35 P a b))
          (k0_pay41 k0_pay27 (k0_pay33 P a b) (k0_pay35 P a b)) (k0_pay43 k0_pay27 (k0_pay33 P a b) (k0_pay35 P a b))) k0_pay57)
      (k0_pay60 k0_pay27 (k0_pay48 k0_pay27 (k0_pay43 k0_pay27 (k0_pay33 P a b) (k0_pay35 P a b))))
      (k0_pay61 (k0_pay55 k0_pay27 (k0_pay28 P a b) (k0_pay43 k0_pay27 (k0_pay33 P a b) (k0_pay35 P a b)))
        (k0_pay56 k0_pay27 (k0_pay28 P a b) (k0_pay31 P a b) (k0_pay34 P a b) (k0_pay38 k0_pay27 (k0_pay33 P a b) (k0_pay35 P a b))
          (k0_pay41 k0_pay27 (k0_pay33 P a b) (k0_pay35 P a b)) (k0_pay43 k0_pay27 (k0_pay33 P a b) (k0_pay35 P a b))) k0_pay57)))
      (fun r t => att (c r) (v r) t) := by
  have X0 : IsStruck (k0_pay26 P a b) c 0 := fun i r j => (hC i r j).trans (struck_zero _ _).symm
  have m0 : IsV (k0_pay28 P a b) fun r => c r (rk (c r) 0) := top_struck 0 (by decide) X0
  have j0 : IsJ (k0_pay29 P a b) fun r => rk (c r) 0 := place_struck 0 (by decide) X0 m0
  have X1 : IsStruck (k0_pay30 P a b) c 1 := strike_struck 0 (by decide) X0 j0
  have m1 : IsV (k0_pay31 P a b) fun r => c r (rk (c r) 1) := top_struck 1 (by decide) X1
  have j1 : IsJ (k0_pay32 P a b) fun r => rk (c r) 1 := place_struck 1 (by decide) X1 m1
  have X2 : IsStruck (k0_pay33 P a b) c 2 := strike_struck 1 (by decide) X1 j1
  have m2 : IsV (k0_pay34 P a b) fun r => c r (rk (c r) 2) := top_struck 2 (by decide) X2
  have j2 : IsJ (k0_pay36 k0_pay27 (k0_pay33 P a b) (k0_pay35 P a b)) fun r => rk (c r) 2 := place_struck 2 (by decide) X2 m2
  have X3 : IsStruck (k0_pay37 k0_pay27 (k0_pay33 P a b) (k0_pay35 P a b)) c 3 := strike_struck 2 (by decide) X2 j2
  generalize k0_pay33 P a b = Y, k0_pay35 P a b = Z at *
  have m3 : IsV (k0_pay38 k0_pay27 Y Z) fun r => c r (rk (c r) 3) := top_struck 3 (by decide) X3
  have j3 : IsJ (k0_pay39 k0_pay27 Y Z) fun r => rk (c r) 3 := place_struck 3 (by decide) X3 m3
  have X4 : IsStruck (k0_pay40 k0_pay27 Y Z) c 4 := strike_struck 3 (by decide) X3 j3
  have m4 : IsV (k0_pay41 k0_pay27 Y Z) fun r => c r (rk (c r) 4) := top_struck 4 (by decide) X4
  have j4 : IsJ (k0_pay42 k0_pay27 Y Z) fun r => rk (c r) 4 := place_struck 4 (by decide) X4 m4
  have X5 : IsStruck (k0_pay43 k0_pay27 Y Z) c 5 := strike_struck 4 (by decide) X4 j4
  generalize k0_pay43 k0_pay27 Y Z = U at *
  have m5 : IsV (k0_pay44 U) fun r => c r (rk (c r) 5) := top_struck 5 (by decide) X5
  have j5 : IsJ (k0_pay45 k0_pay27 U) fun r => rk (c r) 5 := place_struck 5 (by decide) X5 m5
  have X6 : IsStruck (k0_pay46 k0_pay27 U) c 6 := strike_struck 5 (by decide) X5 j5
  have m6 : IsV (k0_pay47 k0_pay27 U) fun r => c r (rk (c r) 6) := top_struck 6 (by decide) X6
  have j6 : IsJ (k0_pay48 k0_pay27 U) fun r => rk (c r) 6 := place_struck 6 (by decide) X6 m6
  have e0 : IsV (k0_pay49 (k0_pay28 P a b)) fun r => wt (c r) 0 := exp_sub m0 m0
  have e1 : IsV (k0_pay50 (k0_pay28 P a b) (k0_pay31 P a b)) fun r => wt (c r) 1 := exp_sub m1 m0
  have e2 : IsV (k0_pay51 (k0_pay28 P a b) (k0_pay34 P a b)) fun r => wt (c r) 2 := exp_sub m2 m0
  have e3 : IsV (k0_pay52 (k0_pay28 P a b) (k0_pay38 k0_pay27 Y Z)) fun r => wt (c r) 3 := exp_sub m3 m0
  have e4 : IsV (k0_pay53 (k0_pay28 P a b) (k0_pay41 k0_pay27 Y Z)) fun r => wt (c r) 4 := exp_sub m4 m0
  have e5 : IsV (k0_pay54 (k0_pay28 P a b) U) fun r => wt (c r) 5 := exp_sub m5 m0
  have e6 : IsV (k0_pay55 k0_pay27 (k0_pay28 P a b) U) fun r => wt (c r) 6 := exp_sub m6 m0
  have s : IsV (k0_pay56 k0_pay27 (k0_pay28 P a b) (k0_pay31 P a b) (k0_pay34 P a b) (k0_pay38 k0_pay27 Y Z) (k0_pay41 k0_pay27 Y Z) U)
      fun r => total (c r) := addV (addV (addV (addV (addV (addV e0 e1) e2) e3) e4) e5) e6
  have nz : ∀ r, total (c r) ≠ 0 := fun r => (total_pos (c r)).ne'
  generalize k0_pay56 k0_pay27 (k0_pay28 P a b) (k0_pay31 P a b) (k0_pay34 P a b) (k0_pay38 k0_pay27 Y Z) (k0_pay41 k0_pay27 Y Z) U = T at *
  have g := addR (addR (addR (addR (addR (addR (addR zero_row (gate_row j0 (share e0 s nz))) (gate_row j1 (share e1 s nz)))
    (gate_row j2 (share e2 s nz))) (gate_row j3 (share e3 s nz))) (gate_row j4 (share e4 s nz))) (gate_row j5 (share e5 s nz)))
    (gate_row j6 (share e6 s nz))
  refine (out_corr (g := fun r t => 0 + (if t = rk (c r) 0 then wt (c r) 0 / total (c r) else 0) + (if t = rk (c r) 1 then wt (c r) 1 / total (c r) else 0)
    + (if t = rk (c r) 2 then wt (c r) 2 / total (c r) else 0) + (if t = rk (c r) 3 then wt (c r) 3 / total (c r) else 0)
    + (if t = rk (c r) 4 then wt (c r) 4 / total (c r) else 0) + (if t = rk (c r) 5 then wt (c r) 5 / total (c r) else 0)
    + (if t = rk (c r) 6 then wt (c r) 6 / total (c r) else 0)) h1 h5 h9 h13 h17 h19 h21 h23 hV g).congr fun i r j => ?_
  show ∑ s, _ * v r (later (at16 i j) s) = _
  simp only [zero_add, add_mul, Finset.sum_add_distrib, gate_sum, att]

end Cert.KernelIdeal.Val
end
-- ==== Proof.Body.lean ====
module

public import proofs.«01_k».proof.Proof.Rounds
public import proofs.«01_k».proof.Proof.Gen.KernelIdeal.Frame

@[expose] public section

noncomputable section

/-! What the kernel's body stores, from the blocks it loads. -/

namespace Cert.KernelIdeal.Val

open Idealize.ShloMosaic Cert.KernelIdeal.Gen Cert.Math

/-- The body's stored block. -/
theorem out_row {x0 x1 x2 : FVec Ideal S16x256x128 .f32} {x3 x4 : FVec Ideal S32x16 .bf16} {x5 x6 x7 x8 : FVec Ideal S256x256 .bf16}
    {x9 x10 : FVec Ideal S16x32 .bf16} {x11 x12 x13 x14 x15 : FVec Ideal S16x1x128 .f32} {q k v : Fin 256 → Fin 2048 → ℝ}
    (h0 : IsRow x0 q) (h1 : IsRow x1 k) (h2 : IsRow x2 v) (h3 : IsIn x3 uIn) (h4 : IsZero x4) (h5 : IsBlk x5 uLane) (h6 : IsZero x6)
    (h7 : IsBlk x7 vLane) (h8 : IsZero x8) (h9 : IsOut x9 vOut) (h10 : IsZero x10)
    (h11 : IsT x11 fun a j => (uTw a j).re) (h12 : IsT x12 fun a j => (uTw a j).im)
    (h13 : IsT x13 fun a j => (vTw a j).re) (h14 : IsT x14 fun a j => (vTw a j).im) (h15 : IsT x15 bandT) :
    IsRow (out0_16 (F := Ideal) x0 x1 x2 x3 x4 x5 x6 x7 x8 x9 x10 x11 x12 x13 x14 x15) fun r t => att (fun s => corr (q r) (k r) s) (v r) t := by
  have z3 : (![0, 0, 0] : Fin 3 → ℕ) = fun _ => 0 := by decide
  have z2 : (![0, 0] : Fin 2 → ℕ) = fun _ => 0 := by decide
  have e63 : k0_pay63 (F := Ideal) x0 x1 x2 x3 x4 x5 x6 x7 x8 x9 x10 x11 x12 x13 x14 x15 = x3 := by
    unfold k0_pay63 k0_pay2
    rw [View.ld_unit_zero z2]
    exact shapeCast_self _ _
  have e64 : k0_pay64 (F := Ideal) x0 x1 x2 x3 x4 x5 x6 x7 x8 x9 x10 x11 x12 x13 x14 x15 = x4 := by
    unfold k0_pay64 k0_pay3
    rw [View.ld_unit_zero z2]
    exact shapeCast_self _ _
  have e65 : k0_pay65 (F := Ideal) x0 x1 x2 x3 x4 x5 x6 x7 x8 x9 x10 x11 x12 x13 x14 x15 = x5 := by
    unfold k0_pay65 k0_pay4
    rw [View.ld_unit_zero z2]
    exact shapeCast_self _ _
  have e66 : k0_pay66 (F := Ideal) x0 x1 x2 x3 x4 x5 x6 x7 x8 x9 x10 x11 x12 x13 x14 x15 = x6 := by
    unfold k0_pay66 k0_pay5
    rw [View.ld_unit_zero z2]
    exact shapeCast_self _ _
  have e67 : k0_pay67 (F := Ideal) x0 x1 x2 x3 x4 x5 x6 x7 x8 x9 x10 x11 x12 x13 x14 x15 = x7 := by
    unfold k0_pay67 k0_pay6
    rw [View.ld_unit_zero z2]
    exact shapeCast_self _ _
  have e68 : k0_pay68 (F := Ideal) x0 x1 x2 x3 x4 x5 x6 x7 x8 x9 x10 x11 x12 x13 x14 x15 = x9 := by
    unfold k0_pay68 k0_pay8
    rw [View.ld_unit_zero z2]
    exact shapeCast_self _ _
  have e69 : k0_pay69 (F := Ideal) x0 x1 x2 x3 x4 x5 x6 x7 x8 x9 x10 x11 x12 x13 x14 x15 = x11 := by
    unfold k0_pay69 k0_pay10
    rw [View.ld_unit_zero z3]
    exact shapeCast_self _ _
  have e70 : k0_pay70 (F := Ideal) x0 x1 x2 x3 x4 x5 x6 x7 x8 x9 x10 x11 x12 x13 x14 x15 = x12 := by
    unfold k0_pay70 k0_pay11
    rw [View.ld_unit_zero z3]
    exact shapeCast_self _ _
  have e71 : k0_pay71 (F := Ideal) x0 x1 x2 x3 x4 x5 x6 x7 x8 x9 x10 x11 x12 x13 x14 x15 = x13 := by
    unfold k0_pay71 k0_pay12
    rw [View.ld_unit_zero z3]
    exact shapeCast_self _ _
  have e72 : k0_pay72 (F := Ideal) x0 x1 x2 x3 x4 x5 x6 x7 x8 x9 x10 x11 x12 x13 x14 x15 = x14 := by
    unfold k0_pay72 k0_pay13
    rw [View.ld_unit_zero z3]
    exact shapeCast_self _ _
  have hP : IsP (k0_pay73 (F := Ideal) x0 x1 x2 x3 x4 x5 x6 x7 x8 x9 x10 x11 x12 x13 x14 x15) (backIn fun a r b =>
      (band (fr16 a b) : ℂ) * (dft (q r) (fr16 a b) * (starRingEnd ℂ) (dft (k r) (fr16 a b)))) := by
    unfold k0_pay73 k0_pay7
    rw [e63, e64, e65, e66, e67, e69, e70, e71, e72, View.ld_unit_zero z2, View.ld_unit_zero z3, View.ld_unit_zero z3, View.ld_unit_zero z3, shapeCast_self]
    have hL := pay15_fwd h3 h4 h5 h6 h11 h12 h0
    exact pay23_back h3 h4 h5 h6 h7 h8 h11 h12 h13 h14 h15 (sliceL_re hL) (sliceL_im hL) h1
  have hC : IsRow (k0_pay26 (k0_pay73 (F := Ideal) x0 x1 x2 x3 x4 x5 x6 x7 x8 x9 x10 x11 x12 x13 x14 x15) (k0_pay74 x0 x1 x2 x3 x4 x5 x6 x7 x8 x9 x10 x11 x12 x13 x14 x15) (k0_pay75 x0 x1 x2 x3 x4 x5 x6 x7 x8 x9 x10 x11 x12 x13 x14 x15)) fun r t => corr (q r) (k r) t := by
    unfold k0_pay74 k0_pay75 k0_pay9
    rw [e68, View.ld_unit_zero z2, shapeCast_self]
    exact pay26_corr h9 h10 hP
  unfold out0_16
  rw [View.canon_unit_zero z3, e63, e65, e67, e68, e69, e70, e71, e72]
  unfold k0_pay86 k0_pay85 k0_pay84 k0_pay83 k0_pay82 k0_pay81 k0_pay80 k0_pay79 k0_pay78 k0_pay77 k0_pay76 k0_pay14
  rw [View.ld_unit_zero z3, shapeCast_self]
  exact body_att h3 h5 h7 h9 h11 h12 h13 h14 h2 hC

end Cert.KernelIdeal.Val
end
-- ==== Proof.Prefix.lean ====
module

public import proofs.«01_k».proof.Proof.Body
public import Idealize.ShloMosaic.Lib.StableHlo.Run

@[expose] public section

set_option maxRecDepth 16384

noncomputable section

/-! The arrays the kernel is entered with: the rows laid out for the grid, and the tables. -/

namespace Cert.KernelIdeal.Val

open Idealize.ShloMosaic Idealize.ShloMosaic.TcCoe Cert.KernelIdeal Cert.KernelIdeal.Gen Cert.Math

/-- Half a turn. -/
def pi0 : FVec Ideal S_ .f32 := Host.acos (constant (F := Ideal) S_ .f32 0xBF800000#32)

/-- The angles of a table over 16 by 16. -/
def ang16 : FVec Ideal S16x16 .f32 :=
  mulf (mulf (sitofp .f32 (andi (muli (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0))))
      (broadcastInDim S16x16 ![] bcast_S_S16x16 (constantI S_ 32 15#32))))
    (broadcastInDim S16x16 ![] bcast_S_S16x16 (constant (F := Ideal) S_ .f32 0x3E000000#32)))
    (broadcastInDim S16x16 ![] bcast_S_S16x16 pi0)

/-- The angles of a table over 16 by 128. -/
def ang2048 : FVec Ideal S16x128 .f32 :=
  mulf (mulf (sitofp .f32 (andi (muli (broadcastInDim S16x128 ![0, 1] bcast_S16x1_S16x128_0_1 (broadcastInDim S16x1 ![0] bcast_S16_S16x1_0 (iotaInDim S16 32 0)))
      (broadcastInDim S16x128 ![0, 1] bcast_S1x128_S16x128_0_1 (broadcastInDim S1x128 ![1] bcast_S128_S1x128_1 (iotaInDim S128 32 0))))
      (broadcastInDim S16x128 ![] bcast_S_S16x128 (constantI S_ 32 2047#32))))
    (broadcastInDim S16x128 ![] bcast_S_S16x128 (constant (F := Ideal) S_ .f32 0x3A800000#32)))
    (broadcastInDim S16x128 ![] bcast_S_S16x128 pi0)

/-- The angles of a table over 128 by 128. -/
def ang128 : FVec Ideal S128x128 .f32 :=
  mulf (mulf (sitofp .f32 (andi (muli (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
      (broadcastInDim S128x128 ![] bcast_S_S128x128 (constantI S_ 32 127#32))))
    (broadcastInDim S128x128 ![] bcast_S_S128x128 (constant (F := Ideal) S_ .f32 0x3C800000#32)))
    (broadcastInDim S128x128 ![] bcast_S_S128x128 pi0)

/-- The first step's table. -/
def tabIn : FVec Ideal S32x16 .f32 :=
  concatenate S32x16 0 [⟨S16x16, Host.cos ang16⟩, ⟨S16x16, mulf (broadcastInDim S16x16 ![] bcast_S_S16x16 (constant (F := Ideal) S_ .f32 0xBF800000#32)) (Host.sin ang16)⟩]
    concatenates_S16x16_S16x16_S32x16_d0

/-- The last step's table. -/
def tabOut : FVec Ideal S16x32 .f32 :=
  concatenate S16x32 1 [⟨S16x16, Host.cos ang16⟩,
    ⟨S16x16, Host.negf (mulf (broadcastInDim S16x16 ![] bcast_S_S16x16 (constant (F := Ideal) S_ .f32 0x3F800000#32)) (Host.sin ang16))⟩]
    concatenates_S16x16_S16x16_S16x32_d1

/-- Two tables as a complex table's blocks. -/
def blocks (a b : FVec Ideal S128x128 .f32) : FVec Ideal S256x256 .f32 :=
  concatenate S256x256 0 [⟨S128x256, concatenate S128x256 1 [⟨S128x128, a⟩, ⟨S128x128, b⟩] concatenates_S128x128_S128x128_S128x256_d1⟩,
    ⟨S128x256, concatenate S128x256 1 [⟨S128x128, Host.negf b⟩, ⟨S128x128, a⟩] concatenates_S128x128_S128x128_S128x256_d1⟩] concatenates_S128x256_S128x256_S256x256_d0

/-- The lane step's table, forward. -/
def tabLane : FVec Ideal S256x256 .f32 :=
  blocks (Host.cos ang128) (mulf (broadcastInDim S128x128 ![] bcast_S_S128x128 (constant (F := Ideal) S_ .f32 0xBF800000#32)) (Host.sin ang128))

/-- The lane step's table, back. -/
def tabBack : FVec Ideal S256x256 .f32 :=
  blocks (Host.divf (Host.cos ang128) (broadcastInDim S128x128 ![] bcast_S_S128x128 (constant (F := Ideal) S_ .f32 0x45000000#32)))
    (Host.divf (mulf (broadcastInDim S128x128 ![] bcast_S_S128x128 (constant (F := Ideal) S_ .f32 0x3F800000#32)) (Host.sin ang128))
      (broadcastInDim S128x128 ![] bcast_S_S128x128 (constant (F := Ideal) S_ .f32 0x45000000#32)))

/-- The cosines of the factors between the steps. -/
def twRe : FVec Ideal S16x1x128 .f32 := broadcastInDim S16x1x128 ![0, 2] bcast_S16x128_S16x1x128_0_2 (Host.cos ang2048)

/-- The sines of the factors between the steps, of the given sign. -/
def twIm (b : BitVec 32) : FVec Ideal S16x1x128 .f32 := broadcastInDim S16x1x128 ![0, 2] bcast_S16x128_S16x1x128_0_2
  (mulf (broadcastInDim S16x128 ![] bcast_S_S16x128 (constant (F := Ideal) S_ .f32 b)) (Host.sin ang2048))

/-- An argument's rows laid out for the grid. -/
def tile (x : FVec Ideal S4x2048x16x64 .f32) : FVec Ideal S16x4096x128 .f32 :=
  transpose S16x4096x128 [1, 0, 2] (shapeCast S4096x16x128 (transpose S4x16x64x2048 [0, 2, 3, 1] x transposes_S4x2048x16x64_S4x16x64x2048_0_2_3_1)
    shapeCasts_S4x16x64x2048_S4096x16x128) transposes_S4096x16x128_S16x4096x128_1_0_2

/-- What is left of a table after its half-precision part is taken off. -/
def rest {s : Shape} (x : FVec Ideal s .f32) : FVec Ideal s .bf16 :=
  truncf .bf16 (subf x (extf .f32 (truncf .bf16 x bitsLt_bf16_f32) bitsLt_bf16_f32)) bitsLt_bf16_f32

variable (m : (ℓ : Loc nD τ sig) → Buf (Elt Ideal) ℓ)

set_option maxHeartbeats 4000000 in
/-- The first operand's array. -/
theorem V_v2 (c : Dev nD) : V m c main_v2 = tile (m ((c : Thread nD τ).loc main_arg0)) := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil, List.cons_append, List.nil_append]
  after_results_simp
  rfl

set_option maxHeartbeats 4000000 in
/-- The second operand's array. -/
theorem V_v5 (c : Dev nD) : V m c main_v5 = tile (m ((c : Thread nD τ).loc main_arg1)) := by
  show StableHlo.after (List.flatten [hostOps0, hostOps0_1, hostOps0_2, hostOps0_3, hostOps0_4]) _ (Proc.devRef .tc main_v5) = _
  simp only [hostOps0, hostOps0_1, hostOps0_2, hostOps0_3, hostOps0_4, List.flatten_cons, List.flatten_nil, List.append_nil, List.cons_append, List.nil_append]
  after_results_simp
  rfl

set_option maxHeartbeats 4000000 in
/-- The third operand's array. -/
theorem V_v8 (c : Dev nD) : V m c main_v8 = tile (m ((c : Thread nD τ).loc main_arg2)) := by
  show StableHlo.after (List.flatten [hostOps0, hostOps0_1, hostOps0_2, hostOps0_3, hostOps0_4]) _ (Proc.devRef .tc main_v8) = _
  simp only [hostOps0, hostOps0_1, hostOps0_2, hostOps0_3, hostOps0_4, List.flatten_cons, List.flatten_nil, List.append_nil, List.cons_append, List.nil_append]
  after_results_simp
  rfl

set_option maxHeartbeats 4000000 in
/-- The first step's table. -/
theorem V_v128 (c : Dev nD) : V m c main_v128 = truncf .bf16 tabIn bitsLt_bf16_f32 := by
  show StableHlo.after (List.flatten [hostOps0, hostOps0_1, hostOps0_2, hostOps0_3, hostOps0_4]) _ (Proc.devRef .tc main_v128) = _
  simp only [hostOps0, hostOps0_1, hostOps0_2, hostOps0_3, hostOps0_4, List.flatten_cons, List.flatten_nil, List.append_nil, List.cons_append, List.nil_append]
  after_results_simp
  rfl

set_option maxHeartbeats 4000000 in
/-- The first step's second table. -/
theorem V_v131 (c : Dev nD) : V m c main_v131 = rest tabIn := by
  show StableHlo.after (List.flatten [hostOps0, hostOps0_1, hostOps0_2, hostOps0_3, hostOps0_4]) _ (Proc.devRef .tc main_v131) = _
  simp only [hostOps0, hostOps0_1, hostOps0_2, hostOps0_3, hostOps0_4, List.flatten_cons, List.flatten_nil, List.append_nil, List.cons_append, List.nil_append]
  after_results_simp
  rfl

set_option maxHeartbeats 4000000 in
/-- The lane step's table, forward. -/
theorem V_v132 (c : Dev nD) : V m c main_v132 = truncf .bf16 tabLane bitsLt_bf16_f32 := by
  show StableHlo.after (List.flatten [hostOps0, hostOps0_1, hostOps0_2, hostOps0_3, hostOps0_4]) _ (Proc.devRef .tc main_v132) = _
  simp only [hostOps0, hostOps0_1, hostOps0_2, hostOps0_3, hostOps0_4, List.flatten_cons, List.flatten_nil, List.append_nil, List.cons_append, List.nil_append]
  after_results_simp
  rfl

set_option maxHeartbeats 4000000 in
/-- The lane step's second table, forward. -/
theorem V_v135 (c : Dev nD) : V m c main_v135 = rest tabLane := by
  show StableHlo.after (List.flatten [hostOps0, hostOps0_1, hostOps0_2, hostOps0_3, hostOps0_4]) _ (Proc.devRef .tc main_v135) = _
  simp only [hostOps0, hostOps0_1, hostOps0_2, hostOps0_3, hostOps0_4, List.flatten_cons, List.flatten_nil, List.append_nil, List.cons_append, List.nil_append]
  after_results_simp
  rfl

set_option maxHeartbeats 4000000 in
/-- The lane step's table, back. -/
theorem V_v136 (c : Dev nD) : V m c main_v136 = truncf .bf16 tabBack bitsLt_bf16_f32 := by
  show StableHlo.after (List.flatten [hostOps0, hostOps0_1, hostOps0_2, hostOps0_3, hostOps0_4]) _ (Proc.devRef .tc main_v136) = _
  simp only [hostOps0, hostOps0_1, hostOps0_2, hostOps0_3, hostOps0_4, List.flatten_cons, List.flatten_nil, List.append_nil, List.cons_append, List.nil_append]
  after_results_simp
  rfl

set_option maxHeartbeats 4000000 in
/-- The lane step's second table, back. -/
theorem V_v139 (c : Dev nD) : V m c main_v139 = rest tabBack := by
  show StableHlo.after (List.flatten [hostOps0, hostOps0_1, hostOps0_2, hostOps0_3, hostOps0_4]) _ (Proc.devRef .tc main_v139) = _
  simp only [hostOps0, hostOps0_1, hostOps0_2, hostOps0_3, hostOps0_4, List.flatten_cons, List.flatten_nil, List.append_nil, List.cons_append, List.nil_append]
  after_results_simp
  rfl

set_option maxHeartbeats 4000000 in
/-- The last step's table. -/
theorem V_v140 (c : Dev nD) : V m c main_v140 = truncf .bf16 tabOut bitsLt_bf16_f32 := by
  show StableHlo.after (List.flatten [hostOps0, hostOps0_1, hostOps0_2, hostOps0_3, hostOps0_4]) _ (Proc.devRef .tc main_v140) = _
  simp only [hostOps0, hostOps0_1, hostOps0_2, hostOps0_3, hostOps0_4, List.flatten_cons, List.flatten_nil, List.append_nil, List.cons_append, List.nil_append]
  after_results_simp
  rfl

set_option maxHeartbeats 4000000 in
/-- The last step's second table. -/
theorem V_v143 (c : Dev nD) : V m c main_v143 = rest tabOut := by
  show StableHlo.after (List.flatten [hostOps0, hostOps0_1, hostOps0_2, hostOps0_3, hostOps0_4]) _ (Proc.devRef .tc main_v143) = _
  simp only [hostOps0, hostOps0_1, hostOps0_2, hostOps0_3, hostOps0_4, List.flatten_cons, List.flatten_nil, List.append_nil, List.cons_append, List.nil_append]
  after_results_simp
  rfl

set_option maxHeartbeats 4000000 in
/-- The forward cosines between the steps. -/
theorem V_v46 (c : Dev nD) : V m c main_v46 = twRe := by
  show StableHlo.after (List.flatten [hostOps0, hostOps0_1, hostOps0_2, hostOps0_3, hostOps0_4]) _ (Proc.devRef .tc main_v46) = _
  simp only [hostOps0, hostOps0_1, hostOps0_2, hostOps0_3, hostOps0_4, List.flatten_cons, List.flatten_nil, List.append_nil, List.cons_append, List.nil_append]
  after_results_simp
  rfl

set_option maxHeartbeats 4000000 in
/-- The forward sines between the steps. -/
theorem V_v47 (c : Dev nD) : V m c main_v47 = twIm 0xBF800000#32 := by
  show StableHlo.after (List.flatten [hostOps0, hostOps0_1, hostOps0_2, hostOps0_3, hostOps0_4]) _ (Proc.devRef .tc main_v47) = _
  simp only [hostOps0, hostOps0_1, hostOps0_2, hostOps0_3, hostOps0_4, List.flatten_cons, List.flatten_nil, List.append_nil, List.cons_append, List.nil_append]
  after_results_simp
  rfl

set_option maxHeartbeats 4000000 in
/-- The backward cosines between the steps. -/
theorem V_v107 (c : Dev nD) : V m c main_v107 = twRe := by
  show StableHlo.after (List.flatten [hostOps0, hostOps0_1, hostOps0_2, hostOps0_3, hostOps0_4]) _ (Proc.devRef .tc main_v107) = _
  simp only [hostOps0, hostOps0_1, hostOps0_2, hostOps0_3, hostOps0_4, List.flatten_cons, List.flatten_nil, List.append_nil, List.cons_append, List.nil_append]
  after_results_simp
  rfl

set_option maxHeartbeats 4000000 in
/-- The backward sines between the steps. -/
theorem V_v108 (c : Dev nD) : V m c main_v108 = twIm 0x3F800000#32 := by
  show StableHlo.after (List.flatten [hostOps0, hostOps0_1, hostOps0_2, hostOps0_3, hostOps0_4]) _ (Proc.devRef .tc main_v108) = _
  simp only [hostOps0, hostOps0_1, hostOps0_2, hostOps0_3, hostOps0_4, List.flatten_cons, List.flatten_nil, List.append_nil, List.cons_append, List.nil_append]
  after_results_simp
  rfl

set_option maxHeartbeats 4000000 in
/-- The band's table. -/
theorem V_cst (c : Dev nD) : V m c main_cst = fun i => Ideal.ofBits .f32 (lit0 (S16x1x128.rowMajor i)) := by
  show StableHlo.after (List.flatten [hostOps0, hostOps0_1, hostOps0_2, hostOps0_3, hostOps0_4]) _ (Proc.devRef .tc main_cst) = _
  simp only [hostOps0, hostOps0_1, hostOps0_2, hostOps0_3, hostOps0_4, List.flatten_cons, List.flatten_nil, List.append_nil, List.cons_append, List.nil_append]
  after_results_simp
  rfl

end Cert.KernelIdeal.Val
end
-- ==== Proof.Angles.lean ====
module

public import proofs.«01_k».proof.Proof.Dft
public import Idealize.ShloMosaic.Lib.IdealHost
public import Idealize.ShloMosaic.Lib.Pointwise

@[expose] public section

noncomputable section

/-! Angles as the two programs spell them: a product of two counts, its low bits, a scale, π. -/

namespace Cert.Math

open Idealize.ShloMosaic

/-- The word `-1.0`. -/
theorem ofBits_neg_one : Ideal.ofBits .f32 3212836864#32 = ((-1 : ℝ) : EReal) := by
  simp [Ideal.ofBits, Ideal.ieee]
  rw [← EReal.coe_mul]
  norm_num

/-- The word `1/8`. -/
theorem ofBits_eighth : Ideal.ofBits .f32 1040187392#32 = ((2 / 16 : ℝ) : EReal) := by
  simp [Ideal.ofBits, Ideal.ieee]
  rw [← EReal.coe_mul]
  norm_num

/-- The word `1/64`. -/
theorem ofBits_64th : Ideal.ofBits .f32 0x3C800000#32 = ((2 / 128 : ℝ) : EReal) := by
  simp [Ideal.ofBits, Ideal.ieee]
  rw [← EReal.coe_mul]
  norm_num

/-- The word `1/1024`. -/
theorem ofBits_1024th : Ideal.ofBits .f32 0x3A800000#32 = ((2 / 2048 : ℝ) : EReal) := by
  simp [Ideal.ofBits, Ideal.ieee]
  rw [← EReal.coe_mul]
  norm_num

/-- The word `2048`. -/
theorem ofBits_2048 : Ideal.ofBits .f32 0x45000000#32 = ((2048 : ℝ) : EReal) := by
  simp [Ideal.ofBits, Ideal.ieee]
  rw [← EReal.coe_mul]
  norm_num

/-- The angle whose cosine is minus one is π. -/
theorem acos_neg_one : Ideal.acos (Ideal.ofBits .f32 3212836864#32) = ((Real.pi : ℝ) : EReal) := by
  rw [ofBits_neg_one, Ideal.acos_coe, if_pos (by norm_num), Real.arccos_neg_one]

/-- The low bits of a product of two counts, as a real number. -/
theorem low_bits (a b k : ℕ) (hk : k < 31) (mask : BitVec 32) (hm : mask = BitVec.ofNat 32 (2 ^ k - 1)) (hab : a * b < 2 ^ 32) :
    (FloatOps.sitofp (F := Ideal) FTy.f32 (IntOp.andi (IntOp.muli (BitVec.ofNat 32 a) (BitVec.ofNat 32 b)) mask) : EReal)
      = (((a * b % 2 ^ k : ℕ) : ℝ) : EReal) := by
  have hlt : a * b % 2 ^ k < 2 ^ k := Nat.mod_lt _ (by positivity)
  have hk2 : 2 ^ k < 2 ^ 31 := Nat.pow_lt_pow_right (by norm_num) hk
  have e : (IntOp.andi (IntOp.muli (BitVec.ofNat 32 a) (BitVec.ofNat 32 b)) mask).toNat = a * b % 2 ^ k := by
    subst hm
    show ((BitVec.ofNat 32 a * BitVec.ofNat 32 b) &&& BitVec.ofNat 32 (2 ^ k - 1)).toNat = _
    rw [← BitVec.ofNat_mul, BitVec.toNat_and, BitVec.toNat_ofNat, BitVec.toNat_ofNat, Nat.mod_eq_of_lt hab,
      Nat.mod_eq_of_lt (by omega), Nat.and_two_pow_sub_one_eq_mod]
  show (((_ : BitVec 32).toInt : ℝ) : EReal) = _
  rw [BitVec.toInt_eq_toNat_of_lt (by rw [e]; omega), e]
  norm_cast

/-- The cosine of a turn's fraction is the real part of a step of the 2048. -/
theorem cos_step (N k n : ℕ) (h : k * N = 2048) :
    Real.cos (((n % N : ℕ) : ℝ) * (2 / N) * Real.pi) = (w ((k * n : ℕ) : ℤ)).re := by
  have hN : (N : ℝ) ≠ 0 := by
    rintro h0
    have : N = 0 := by exact_mod_cast h0
    subst this; simp at h
  have hkN : (k : ℝ) * N = 2048 := by exact_mod_cast h
  rw [w_congr (b := ((k * (n % N) : ℕ) : ℤ)), w_re]
  · congr 1
    rw [← hkN, Int.cast_natCast, Nat.cast_mul]
    have hk : (k : ℝ) ≠ 0 := by rintro h0; rw [h0] at hkN; norm_num at hkN
    generalize ((n % N : ℕ) : ℝ) = z
    field_simp
  · refine ⟨((n / N : ℕ) : ℤ), ?_⟩
    have := Nat.div_add_mod n N
    have e : k * n = 2048 * (n / N) + k * (n % N) := by
      conv_lhs => rw [← this]
      rw [← h]; ring
    rw [e]; push_cast; ring

/-- The sine of a turn's fraction is the imaginary part of that step. -/
theorem sin_step (N k n : ℕ) (h : k * N = 2048) :
    Real.sin (((n % N : ℕ) : ℝ) * (2 / N) * Real.pi) = (w ((k * n : ℕ) : ℤ)).im := by
  have hN : (N : ℝ) ≠ 0 := by
    rintro h0
    have : N = 0 := by exact_mod_cast h0
    subst this; simp at h
  have hkN : (k : ℝ) * N = 2048 := by exact_mod_cast h
  rw [w_congr (b := ((k * (n % N) : ℕ) : ℤ)), w_im]
  · congr 1
    rw [← hkN, Int.cast_natCast, Nat.cast_mul]
    have hk : (k : ℝ) ≠ 0 := by rintro h0; rw [h0] at hkN; norm_num at hkN
    generalize ((n % N : ℕ) : ℝ) = z
    field_simp
  · refine ⟨((n / N : ℕ) : ℤ), ?_⟩
    have := Nat.div_add_mod n N
    have e : k * n = 2048 * (n / N) + k * (n % N) := by
      conv_lhs => rw [← this]
      rw [← h]; ring
    rw [e]; push_cast; ring

/-- The step backwards has the same real part. -/
theorem w_neg_re (n : ℤ) : (w (-n)).re = (w n).re := by rw [← w_conj, Complex.conj_re]

/-- The step backwards has the opposite imaginary part. -/
theorem w_neg_im (n : ℤ) : (w (-n)).im = -(w n).im := by rw [← w_conj, Complex.conj_im]

end Cert.Math
end
-- ==== Proof.Tables.lean ====
module

public import proofs.«01_k».proof.Proof.Prefix
public import proofs.«01_k».proof.Proof.Angles

@[expose] public section

set_option maxRecDepth 16384

noncomputable section

/-! The tables' entries. -/

namespace Cert.KernelIdeal.Val

open Idealize.ShloMosaic Idealize.ShloMosaic.TcCoe Cert.KernelIdeal Cert.KernelIdeal.Gen Cert.Math

/-- The 16 by 16 angles. -/
theorem ang16_apply (a b : Fin 16) : ang16 (ix2 a b) = (((((a : ℕ) * b % 16 : ℕ) : ℝ) * (2 / (16 : ℕ)) * Real.pi : ℝ) : EReal) := by
  pointwise [ang16, pi0]
  rw [low_bits _ _ 4 (by norm_num) _ (by decide) (by nlinarith [a.2, b.2]), ofBits_eighth, acos_neg_one, ← EReal.coe_mul, ← EReal.coe_mul]
  norm_num

/-- The 16 by 128 angles. -/
theorem ang2048_apply (a : Fin 16) (b : Fin 128) :
    ang2048 (ix2 a b) = (((((a : ℕ) * b % 2048 : ℕ) : ℝ) * (2 / (2048 : ℕ)) * Real.pi : ℝ) : EReal) := by
  pointwise [ang2048, pi0]
  rw [low_bits _ _ 11 (by norm_num) _ (by decide) (by nlinarith [a.2, b.2]), ofBits_1024th, acos_neg_one, ← EReal.coe_mul, ← EReal.coe_mul]
  norm_num

/-- The 128 by 128 angles. -/
theorem ang128_apply (a b : Fin 128) :
    ang128 (ix2 a b) = (((((a : ℕ) * b % 128 : ℕ) : ℝ) * (2 / (128 : ℕ)) * Real.pi : ℝ) : EReal) := by
  pointwise [ang128, pi0]
  rw [low_bits _ _ 7 (by norm_num) _ (by decide) (by nlinarith [a.2, b.2]), ofBits_64th, acos_neg_one, ← EReal.coe_mul, ← EReal.coe_mul]
  norm_num

/-- Cosine and sine of the 16 by 16 angles. -/
theorem cs16 (a b : Fin 16) : Ideal.cos (ang16 (ix2 a b)) = ((w (128 * (a : ℕ) * (b : ℕ) : ℤ)).re : EReal)
    ∧ Ideal.sin (ang16 (ix2 a b)) = ((w (128 * (a : ℕ) * (b : ℕ) : ℤ)).im : EReal) := by
  rw [ang16_apply, Ideal.cos_coe, Ideal.sin_coe, cos_step 16 128 _ (by norm_num), sin_step 16 128 _ (by norm_num)]
  push_cast
  rw [mul_assoc]
  exact ⟨rfl, rfl⟩

/-- Cosine and sine of the 16 by 128 angles. -/
theorem cs2048 (a : Fin 16) (b : Fin 128) : Ideal.cos (ang2048 (ix2 a b)) = ((w ((a : ℕ) * (b : ℕ) : ℤ)).re : EReal)
    ∧ Ideal.sin (ang2048 (ix2 a b)) = ((w ((a : ℕ) * (b : ℕ) : ℤ)).im : EReal) := by
  rw [ang2048_apply, Ideal.cos_coe, Ideal.sin_coe, cos_step 2048 1 _ (by norm_num), sin_step 2048 1 _ (by norm_num)]
  push_cast
  rw [one_mul]
  exact ⟨rfl, rfl⟩

/-- Cosine and sine of the 128 by 128 angles. -/
theorem cs128 (a b : Fin 128) : Ideal.cos (ang128 (ix2 a b)) = ((w (16 * (a : ℕ) * (b : ℕ) : ℤ)).re : EReal)
    ∧ Ideal.sin (ang128 (ix2 a b)) = ((w (16 * (a : ℕ) * (b : ℕ) : ℤ)).im : EReal) := by
  rw [ang128_apply, Ideal.cos_coe, Ideal.sin_coe, cos_step 128 16 _ (by norm_num), sin_step 128 16 _ (by norm_num)]
  push_cast
  rw [mul_assoc]
  exact ⟨rfl, rfl⟩

/-- Nothing is left of a table of real numbers. -/
theorem rest_isZero {s : Shape} {x : FVec Ideal s .f32} (h : ∀ i, ∃ r : ℝ, x i = r) : IsZero (rest x) := by
  intro i
  obtain ⟨r, hr⟩ := h i
  show x i - x i = _
  rw [hr, ← EReal.coe_sub, sub_self]
  rfl

/-- The negated sine. -/
theorem neg_one_mul_coe (r : ℝ) : Ideal.ofBits .f32 3212836864#32 * (r : EReal) = ((-r : ℝ) : EReal) := by
  rw [ofBits_neg_one, ← EReal.coe_mul, neg_one_mul]

/-- The sine, times one. -/
theorem one_mul_coe (r : ℝ) : Ideal.ofBits .f32 0x3F800000#32 * (r : EReal) = (r : EReal) := by
  rw [Ideal.ofBits_one_f32, one_mul]

/-- The first table. -/
theorem tabIn_isIn : IsIn (truncf .bf16 tabIn bitsLt_bf16_f32) uIn := by
  intro a i
  constructor
  · pointwise [tabIn]
    rw [(cs16 a i).1, uIn, w_neg_re]
  · pointwise [tabIn]
    rw [(cs16 a i).2, uIn, w_neg_im, neg_one_mul_coe]

/-- The last table. -/
theorem tabOut_isOut : IsOut (truncf .bf16 tabOut bitsLt_bf16_f32) vOut := by
  intro i a
  constructor
  · pointwise [tabOut]
    rw [(cs16 i a).1, vOut]
  · pointwise [tabOut]
    rw [(cs16 i a).2, vOut, ← EReal.coe_neg]

/-- The forward lane table. -/
theorem tabLane_isBlk : IsBlk (truncf .bf16 tabLane bitsLt_bf16_f32) uLane := by
  intro j k
  refine ⟨?_, ?_, ?_, ?_⟩
  all_goals
    pointwise [tabLane, blocks]
    first
      | rw [(cs128 j k).1, uLane, w_neg_re]
      | (rw [(cs128 j k).2, uLane, w_neg_im, neg_one_mul_coe]; done)
      | rw [(cs128 j k).2, uLane, w_neg_im, neg_one_mul_coe, ← EReal.coe_neg]

/-- A step over 2048. -/
theorem vLane_re (j k : Fin 128) : (vLane j k).re = (w (16 * (j : ℕ) * (k : ℕ) : ℤ)).re * (1 / 2048)
    ∧ (vLane j k).im = (w (16 * (j : ℕ) * (k : ℕ) : ℤ)).im * (1 / 2048) := by
  unfold vLane
  have : (2048 : ℂ) = ((2048 : ℝ) : ℂ) := by norm_num
  rw [this, Complex.div_ofReal_re, Complex.div_ofReal_im]
  constructor <;> ring

/-- The lane table back. -/
theorem tabBack_isBlk : IsBlk (truncf .bf16 tabBack bitsLt_bf16_f32) vLane := by
  intro j k
  refine ⟨?_, ?_, ?_, ?_⟩
  all_goals
    pointwise [tabBack, blocks]
    simp only [ofBits_2048, one_mul_coe, (cs128 j k).1, (cs128 j k).2, (vLane_re j k).1, (vLane_re j k).2, Ideal.div_coe (y := 2048) (by norm_num), ← EReal.coe_mul, ← EReal.coe_neg]

/-- The mask of the frequencies kept. -/
theorem mask_isT : IsT (fun i => Ideal.ofBits .f32 (lit0 (S16x1x128.rowMajor i))) bandT := by
  have hl : ∀ (a : Fin 16) (j : Fin 128), lit0 (S16x1x128.rowMajor (ix3 a 0 j)) = if 16 * (j : ℕ) + (a : ℕ) = 0 ∨ 16 * (j : ℕ) + (a : ℕ) = 1024 then 0#32 else 0x3F800000#32 := by
    decide +kernel
  intro a j
  show Ideal.ofBits .f32 (lit0 (S16x1x128.rowMajor (ix3 a 0 j))) = ((band (16 * (j : ℕ) + (a : ℕ)) : ℝ) : EReal)
  rw [hl, band]
  split
  · exact Ideal.ofBits_zero_f32
  · exact Ideal.ofBits_one_f32

/-- The cosines between the steps. -/
theorem twRe_uTw : IsT twRe fun a j => (uTw a j).re := by
  intro a j
  pointwise [twRe]
  rw [(cs2048 a j).1, uTw, w_neg_re]

/-- The cosines between the steps back. -/
theorem twRe_vTw : IsT twRe fun a j => (vTw a j).re := by
  intro a j
  pointwise [twRe]
  rw [(cs2048 a j).1, vTw]

/-- The sines between the steps. -/
theorem twIm_uTw : IsT (twIm 0xBF800000#32) fun a j => (uTw a j).im := by
  intro a j
  pointwise [twIm]
  rw [(cs2048 a j).2, uTw, w_neg_im, neg_one_mul_coe]

/-- The sines between the steps back. -/
theorem twIm_vTw : IsT (twIm 0x3F800000#32) fun a j => (vTw a j).im := by
  intro a j
  pointwise [twIm]
  rw [(cs2048 a j).2, vTw]

/-- An index below 16 or from 16 on. -/
theorem half_cases {n : ℕ} (k : Fin (n + n)) : (∃ a : Fin n, k = ⟨a, by omega⟩) ∨ ∃ a : Fin n, k = ⟨n + a, by omega⟩ := by
  by_cases h : (k : ℕ) < n
  · exact .inl ⟨⟨k, h⟩, rfl⟩
  · exact .inr ⟨⟨k - n, by omega⟩, Fin.ext (by simp; omega)⟩

/-- The first table is of real numbers. -/
theorem tabIn_rest : IsZero (rest tabIn) := rest_isZero fun i => by
  idx_vars i
  rcases half_cases (n := 16) i0 with ⟨a, rfl⟩ | ⟨a, rfl⟩
  · exact ⟨_, (tabIn_isIn a i1).1⟩
  · exact ⟨_, (tabIn_isIn a i1).2⟩

/-- The last table is of real numbers. -/
theorem tabOut_rest : IsZero (rest tabOut) := rest_isZero fun i => by
  idx_vars i
  rcases half_cases (n := 16) i1 with ⟨a, rfl⟩ | ⟨a, rfl⟩
  · exact ⟨_, (tabOut_isOut i0 a).1⟩
  · exact ⟨_, (tabOut_isOut i0 a).2⟩

/-- A table of blocks is of real numbers. -/
theorem isBlk_rest {x : FVec Ideal S256x256 .f32} {u : Fin 128 → Fin 128 → ℂ} (h : IsBlk (truncf .bf16 x bitsLt_bf16_f32) u) : IsZero (rest x) :=
  rest_isZero fun i => by
    idx_vars i
    rcases half_cases (n := 128) i0 with ⟨a, rfl⟩ | ⟨a, rfl⟩ <;> rcases half_cases (n := 128) i1 with ⟨b, rfl⟩ | ⟨b, rfl⟩
    · exact ⟨_, (h a b).1⟩
    · exact ⟨_, (h a b).2.1⟩
    · exact ⟨_, (h a b).2.2.1⟩
    · exact ⟨_, (h a b).2.2.2⟩

end Cert.KernelIdeal.Val
end
-- ==== Proof.Launch.lean ====
module

public import proofs.«01_k».proof.Proof.Tables
public import Idealize.ShloMosaic.Lib.Pipeline.Value

@[expose] public section

set_option maxRecDepth 16384

noncomputable section

/-! From the grid's blocks to the whole result. -/

namespace Cert.KernelIdeal.Val

open Idealize.ShloMosaic Idealize.ShloMosaic.TcCoe Idealize.SL.Sem Cert.KernelIdeal Cert.KernelIdeal.Gen Cert.Math
open Idealize.ShloMosaic.Pipeline (Dat)

/-- The row of an argument the grid's row `R` comes from, as real numbers. -/
def rows (x : FVec Ideal S4x2048x16x64 .f32) (R : Fin 4096) (t : Fin 2048) : ℝ :=
  (x (ix4 (⟨R / 1024, by omega⟩ : Fin 4) t (⟨R / 64 % 16, by omega⟩ : Fin 16) (⟨R % 64, by omega⟩ : Fin 64)) : EReal).toReal

/-- An array of real numbers. -/
def Real4 (x : FVec Ideal S4x2048x16x64 .f32) : Prop := ∀ i, x i = (((x i : EReal).toReal : ℝ) : EReal)

/-- The laid-out rows, read. -/
theorem tile_apply (x : FVec Ideal S4x2048x16x64 .f32) (i : Fin 16) (R : Fin 4096) (j : Fin 128) :
    tile x (ix3 i R j) = x (ix4 (⟨R / 1024, by omega⟩ : Fin 4) (at16 i j) (⟨R / 64 % 16, by omega⟩ : Fin 16) (⟨R % 64, by omega⟩ : Fin 64)) := by
  pointwise [tile]
  congr 2
  apply Fin.ext
  show (i : ℕ) * 128 + j = 128 * i + j
  omega

/-- The laid-out rows of an array of real numbers. -/
theorem tile_rows {x : FVec Ideal S4x2048x16x64 .f32} (hx : Real4 x) (i : Fin 16) (R : Fin 4096) (j : Fin 128) :
    tile x (ix3 i R j) = ((rows x R (at16 i j) : ℝ) : EReal) := by
  rw [tile_apply]; exact hx _

variable (m : (ℓ : Loc nD τ sig) → Buf (Elt Ideal) ℓ)

/-- The grid's result: every row's attended values. -/
def outG (q k v : Fin 4096 → Fin 2048 → ℝ) : FVec Ideal S16x4096x128 .f32 :=
  fun i => (((att (fun s => corr (q (i 1)) (k (i 1)) s) (v (i 1)) (at16 (i 0) (i 2)) : ℝ)) : EReal)

/-- The moving windows take the grid point's rows. -/
theorem moving : ∀ t : Fin grid0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_16.index t 0 = 0 ∧ win0_16.index t 1 = t.val ∧ win0_16.index t 2 = 0) := by
  decide +kernel

/-- The tables' windows stay. -/
theorem staying2 : ∀ t : Fin grid0.N,
    (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) := by
  decide +kernel

/-- The factors' windows stay. -/
theorem staying3 : ∀ t : Fin grid0.N,
    (win0_11.index t 0 = 0 ∧ win0_11.index t 1 = 0 ∧ win0_11.index t 2 = 0) ∧ (win0_12.index t 0 = 0 ∧ win0_12.index t 1 = 0 ∧ win0_12.index t 2 = 0)
    ∧ (win0_13.index t 0 = 0 ∧ win0_13.index t 1 = 0 ∧ win0_13.index t 2 = 0) ∧ (win0_14.index t 0 = 0 ∧ win0_14.index t 1 = 0 ∧ win0_14.index t 2 = 0)
    ∧ (win0_15.index t 0 = 0 ∧ win0_15.index t 1 = 0 ∧ win0_15.index t 2 = 0) := by
  decide +kernel

/-- A grid point's row of the whole. -/
def wholeRow (t : Fin cfg0.N) (r : Fin 256) : Fin 4096 :=
  ⟨256 * t.val + r, by have ht : t.val < 16 := lt_of_lt_of_eq t.isLt N_0; omega⟩

/-- An index of three axes from its parts. -/
theorem idx3_eq {p q r : ℕ} (y : (⟨3, ![p, q, r]⟩ : Shape).Idx) (a : Fin p) (b : Fin q) (c : Fin r)
    (h0 : (y 0).val = a) (h1 : (y 1).val = b) (h2 : (y 2).val = c) : y = ix3 a b c := by
  funext d
  match d with
  | ⟨0, _⟩ => exact Fin.ext h0
  | ⟨1, _⟩ => exact Fin.ext h1
  | ⟨2, _⟩ => exact Fin.ext h2

/-- A block of the result's array, read. -/
theorem out_blk (t : Fin cfg0.N) (G : FVec Ideal S16x4096x128 .f32) (i : Fin 16) (r : Fin 256) (j : Fin 128) :
    (win0_16.blk t).view.read (Elt Ideal) G (ix3 i r j) = G (ix3 i (wholeRow t r) j) := by
  show G ((win0_16.blk t).view.emb (ix3 i r j)) = _
  congr 1
  refine idx3_eq _ _ _ _ ?_ ?_ ?_
  · show win0_16.index t 0 * 16 + 1 * i.val = i.val
    rw [(moving t).2.2.2.1]; omega
  · show win0_16.index t 1 * 256 + 1 * r.val = 256 * t.val + r.val
    rw [(moving t).2.2.2.2.1]; omega
  · show win0_16.index t 2 * 128 + 1 * j.val = j.val
    rw [(moving t).2.2.2.2.2]; omega

/-- A block of the first operand. -/
theorem iblk0 (c : Dev nD) (t : Fin cfg0.N) (i : Fin 16) (r : Fin 256) (j : Fin 128) :
    iblk m c 0 t (ix3 i r j) = tile (m ((c : Thread nD τ).loc main_arg0)) (ix3 i (wholeRow t r) j) := by
  rw [← V_v2 m c]
  show V m c main_v2 ((win0_0.blk t).view.emb (ix3 i r j)) = _
  congr 1
  refine idx3_eq _ _ _ _ ?_ ?_ ?_
  · show win0_0.index t 0 * 16 + 1 * i.val = i.val
    rw [(moving t).1.1]; omega
  · show win0_0.index t 1 * 256 + 1 * r.val = 256 * t.val + r.val
    rw [(moving t).1.2.1]; omega
  · show win0_0.index t 2 * 128 + 1 * j.val = j.val
    rw [(moving t).1.2.2]; omega

/-- A block of the second operand. -/
theorem iblk1 (c : Dev nD) (t : Fin cfg0.N) (i : Fin 16) (r : Fin 256) (j : Fin 128) :
    iblk m c 1 t (ix3 i r j) = tile (m ((c : Thread nD τ).loc main_arg1)) (ix3 i (wholeRow t r) j) := by
  rw [← V_v5 m c]
  show V m c main_v5 ((win0_1.blk t).view.emb (ix3 i r j)) = _
  congr 1
  refine idx3_eq _ _ _ _ ?_ ?_ ?_
  · show win0_1.index t 0 * 16 + 1 * i.val = i.val
    rw [(moving t).2.1.1]; omega
  · show win0_1.index t 1 * 256 + 1 * r.val = 256 * t.val + r.val
    rw [(moving t).2.1.2.1]; omega
  · show win0_1.index t 2 * 128 + 1 * j.val = j.val
    rw [(moving t).2.1.2.2]; omega

/-- A block of the third operand. -/
theorem iblk2 (c : Dev nD) (t : Fin cfg0.N) (i : Fin 16) (r : Fin 256) (j : Fin 128) :
    iblk m c 2 t (ix3 i r j) = tile (m ((c : Thread nD τ).loc main_arg2)) (ix3 i (wholeRow t r) j) := by
  rw [← V_v8 m c]
  show V m c main_v8 ((win0_2.blk t).view.emb (ix3 i r j)) = _
  congr 1
  refine idx3_eq _ _ _ _ ?_ ?_ ?_
  · show win0_2.index t 0 * 16 + 1 * i.val = i.val
    rw [(moving t).2.2.1.1]; omega
  · show win0_2.index t 1 * 256 + 1 * r.val = 256 * t.val + r.val
    rw [(moving t).2.2.1.2.1]; omega
  · show win0_2.index t 2 * 128 + 1 * j.val = j.val
    rw [(moving t).2.2.1.2.2]; omega

/-- A table, staying whole at every point. -/
theorem iblk3 (c : Dev nD) (t : Fin cfg0.N) : iblk m c 3 t = truncf .bf16 tabIn bitsLt_bf16_f32 := by
  rw [← V_v128 m c]
  funext y
  show V m c main_v128 ((win0_3.blk t).view.emb y) = _
  congr 1
  funext a
  apply Fin.ext
  match a with
  | ⟨0, _⟩ => show win0_3.index t 0 * 32 + 1 * (y 0).val = (y 0).val; rw [(staying2 t).1.1]; omega
  | ⟨1, _⟩ => show win0_3.index t 1 * 16 + 1 * (y 1).val = (y 1).val; rw [(staying2 t).1.2]; omega

/-- A table, staying whole at every point. -/
theorem iblk4 (c : Dev nD) (t : Fin cfg0.N) : iblk m c 4 t = rest tabIn := by
  rw [← V_v131 m c]
  funext y
  show V m c main_v131 ((win0_4.blk t).view.emb y) = _
  congr 1
  funext a
  apply Fin.ext
  match a with
  | ⟨0, _⟩ => show win0_4.index t 0 * 32 + 1 * (y 0).val = (y 0).val; rw [(staying2 t).2.1.1]; omega
  | ⟨1, _⟩ => show win0_4.index t 1 * 16 + 1 * (y 1).val = (y 1).val; rw [(staying2 t).2.1.2]; omega

/-- A table, staying whole at every point. -/
theorem iblk5 (c : Dev nD) (t : Fin cfg0.N) : iblk m c 5 t = truncf .bf16 tabLane bitsLt_bf16_f32 := by
  rw [← V_v132 m c]
  funext y
  show V m c main_v132 ((win0_5.blk t).view.emb y) = _
  congr 1
  funext a
  apply Fin.ext
  match a with
  | ⟨0, _⟩ => show win0_5.index t 0 * 256 + 1 * (y 0).val = (y 0).val; rw [(staying2 t).2.2.1.1]; omega
  | ⟨1, _⟩ => show win0_5.index t 1 * 256 + 1 * (y 1).val = (y 1).val; rw [(staying2 t).2.2.1.2]; omega

/-- A table, staying whole at every point. -/
theorem iblk6 (c : Dev nD) (t : Fin cfg0.N) : iblk m c 6 t = rest tabLane := by
  rw [← V_v135 m c]
  funext y
  show V m c main_v135 ((win0_6.blk t).view.emb y) = _
  congr 1
  funext a
  apply Fin.ext
  match a with
  | ⟨0, _⟩ => show win0_6.index t 0 * 256 + 1 * (y 0).val = (y 0).val; rw [(staying2 t).2.2.2.1.1]; omega
  | ⟨1, _⟩ => show win0_6.index t 1 * 256 + 1 * (y 1).val = (y 1).val; rw [(staying2 t).2.2.2.1.2]; omega

/-- A table, staying whole at every point. -/
theorem iblk7 (c : Dev nD) (t : Fin cfg0.N) : iblk m c 7 t = truncf .bf16 tabBack bitsLt_bf16_f32 := by
  rw [← V_v136 m c]
  funext y
  show V m c main_v136 ((win0_7.blk t).view.emb y) = _
  congr 1
  funext a
  apply Fin.ext
  match a with
  | ⟨0, _⟩ => show win0_7.index t 0 * 256 + 1 * (y 0).val = (y 0).val; rw [(staying2 t).2.2.2.2.1.1]; omega
  | ⟨1, _⟩ => show win0_7.index t 1 * 256 + 1 * (y 1).val = (y 1).val; rw [(staying2 t).2.2.2.2.1.2]; omega

/-- A table, staying whole at every point. -/
theorem iblk8 (c : Dev nD) (t : Fin cfg0.N) : iblk m c 8 t = rest tabBack := by
  rw [← V_v139 m c]
  funext y
  show V m c main_v139 ((win0_8.blk t).view.emb y) = _
  congr 1
  funext a
  apply Fin.ext
  match a with
  | ⟨0, _⟩ => show win0_8.index t 0 * 256 + 1 * (y 0).val = (y 0).val; rw [(staying2 t).2.2.2.2.2.1.1]; omega
  | ⟨1, _⟩ => show win0_8.index t 1 * 256 + 1 * (y 1).val = (y 1).val; rw [(staying2 t).2.2.2.2.2.1.2]; omega

/-- A table, staying whole at every point. -/
theorem iblk9 (c : Dev nD) (t : Fin cfg0.N) : iblk m c 9 t = truncf .bf16 tabOut bitsLt_bf16_f32 := by
  rw [← V_v140 m c]
  funext y
  show V m c main_v140 ((win0_9.blk t).view.emb y) = _
  congr 1
  funext a
  apply Fin.ext
  match a with
  | ⟨0, _⟩ => show win0_9.index t 0 * 16 + 1 * (y 0).val = (y 0).val; rw [(staying2 t).2.2.2.2.2.2.1.1]; omega
  | ⟨1, _⟩ => show win0_9.index t 1 * 32 + 1 * (y 1).val = (y 1).val; rw [(staying2 t).2.2.2.2.2.2.1.2]; omega

/-- A table, staying whole at every point. -/
theorem iblk10 (c : Dev nD) (t : Fin cfg0.N) : iblk m c 10 t = rest tabOut := by
  rw [← V_v143 m c]
  funext y
  show V m c main_v143 ((win0_10.blk t).view.emb y) = _
  congr 1
  funext a
  apply Fin.ext
  match a with
  | ⟨0, _⟩ => show win0_10.index t 0 * 16 + 1 * (y 0).val = (y 0).val; rw [(staying2 t).2.2.2.2.2.2.2.1]; omega
  | ⟨1, _⟩ => show win0_10.index t 1 * 32 + 1 * (y 1).val = (y 1).val; rw [(staying2 t).2.2.2.2.2.2.2.2]; omega

/-- A table, staying whole at every point. -/
theorem iblk11 (c : Dev nD) (t : Fin cfg0.N) : iblk m c 11 t = twRe := by
  rw [← V_v46 m c]
  funext y
  show V m c main_v46 ((win0_11.blk t).view.emb y) = _
  congr 1
  funext a
  apply Fin.ext
  match a with
  | ⟨0, _⟩ => show win0_11.index t 0 * 16 + 1 * (y 0).val = (y 0).val; rw [(staying3 t).1.1]; omega
  | ⟨1, _⟩ => show win0_11.index t 1 * 1 + 1 * (y 1).val = (y 1).val; rw [(staying3 t).1.2.1]; omega
  | ⟨2, _⟩ => show win0_11.index t 2 * 128 + 1 * (y 2).val = (y 2).val; rw [(staying3 t).1.2.2]; omega

/-- A table, staying whole at every point. -/
theorem iblk12 (c : Dev nD) (t : Fin cfg0.N) : iblk m c 12 t = twIm 0xBF800000#32 := by
  rw [← V_v47 m c]
  funext y
  show V m c main_v47 ((win0_12.blk t).view.emb y) = _
  congr 1
  funext a
  apply Fin.ext
  match a with
  | ⟨0, _⟩ => show win0_12.index t 0 * 16 + 1 * (y 0).val = (y 0).val; rw [(staying3 t).2.1.1]; omega
  | ⟨1, _⟩ => show win0_12.index t 1 * 1 + 1 * (y 1).val = (y 1).val; rw [(staying3 t).2.1.2.1]; omega
  | ⟨2, _⟩ => show win0_12.index t 2 * 128 + 1 * (y 2).val = (y 2).val; rw [(staying3 t).2.1.2.2]; omega

/-- A table, staying whole at every point. -/
theorem iblk13 (c : Dev nD) (t : Fin cfg0.N) : iblk m c 13 t = twRe := by
  rw [← V_v107 m c]
  funext y
  show V m c main_v107 ((win0_13.blk t).view.emb y) = _
  congr 1
  funext a
  apply Fin.ext
  match a with
  | ⟨0, _⟩ => show win0_13.index t 0 * 16 + 1 * (y 0).val = (y 0).val; rw [(staying3 t).2.2.1.1]; omega
  | ⟨1, _⟩ => show win0_13.index t 1 * 1 + 1 * (y 1).val = (y 1).val; rw [(staying3 t).2.2.1.2.1]; omega
  | ⟨2, _⟩ => show win0_13.index t 2 * 128 + 1 * (y 2).val = (y 2).val; rw [(staying3 t).2.2.1.2.2]; omega

/-- A table, staying whole at every point. -/
theorem iblk14 (c : Dev nD) (t : Fin cfg0.N) : iblk m c 14 t = twIm 0x3F800000#32 := by
  rw [← V_v108 m c]
  funext y
  show V m c main_v108 ((win0_14.blk t).view.emb y) = _
  congr 1
  funext a
  apply Fin.ext
  match a with
  | ⟨0, _⟩ => show win0_14.index t 0 * 16 + 1 * (y 0).val = (y 0).val; rw [(staying3 t).2.2.2.1.1]; omega
  | ⟨1, _⟩ => show win0_14.index t 1 * 1 + 1 * (y 1).val = (y 1).val; rw [(staying3 t).2.2.2.1.2.1]; omega
  | ⟨2, _⟩ => show win0_14.index t 2 * 128 + 1 * (y 2).val = (y 2).val; rw [(staying3 t).2.2.2.1.2.2]; omega

/-- A table, staying whole at every point. -/
theorem iblk15 (c : Dev nD) (t : Fin cfg0.N) : iblk m c 15 t = fun i => Ideal.ofBits .f32 (lit0 (S16x1x128.rowMajor i)) := by
  rw [← V_cst m c]
  funext y
  show V m c main_cst ((win0_15.blk t).view.emb y) = _
  congr 1
  funext a
  apply Fin.ext
  match a with
  | ⟨0, _⟩ => show win0_15.index t 0 * 16 + 1 * (y 0).val = (y 0).val; rw [(staying3 t).2.2.2.2.1]; omega
  | ⟨1, _⟩ => show win0_15.index t 1 * 1 + 1 * (y 1).val = (y 1).val; rw [(staying3 t).2.2.2.2.2.1]; omega
  | ⟨2, _⟩ => show win0_15.index t 2 * 128 + 1 * (y 2).val = (y 2).val; rw [(staying3 t).2.2.2.2.2.2]; omega

/-- What a grid point writes back is its block of the attended values. -/
theorem flushed_eq (c : Dev nD) (h0 : Real4 (m ((c : Thread nD τ).loc main_arg0))) (h1 : Real4 (m ((c : Thread nD τ).loc main_arg1)))
    (h2 : Real4 (m ((c : Thread nD τ).loc main_arg2))) (t : Fin cfg0.N) :
    (dats m 0 c).flushed 16 t = (win0_16.blk t).view.read (Elt Ideal)
      (outG (rows (m ((c : Thread nD τ).loc main_arg0))) (rows (m ((c : Thread nD τ).loc main_arg1))) (rows (m ((c : Thread nD τ).loc main_arg2)))) := by
  show (cfg0.win 16).cut (grid0.coords t) ((dats m 0 c).after 16 t) = _
  rw [after0_16]
  have key := out_row (x0 := iblk m c 0 t) (x1 := iblk m c 1 t) (x2 := iblk m c 2 t)
    (q := fun r => rows (m ((c : Thread nD τ).loc main_arg0)) (wholeRow t r)) (k := fun r => rows (m ((c : Thread nD τ).loc main_arg1)) (wholeRow t r))
    (v := fun r => rows (m ((c : Thread nD τ).loc main_arg2)) (wholeRow t r))
    (fun i r j => (iblk0 m c t i r j).trans (tile_rows h0 _ _ _)) (fun i r j => (iblk1 m c t i r j).trans (tile_rows h1 _ _ _))
    (fun i r j => (iblk2 m c t i r j).trans (tile_rows h2 _ _ _))
    (iblk3 m c t ▸ tabIn_isIn) (iblk4 m c t ▸ tabIn_rest) (iblk5 m c t ▸ tabLane_isBlk) (iblk6 m c t ▸ isBlk_rest tabLane_isBlk)
    (iblk7 m c t ▸ tabBack_isBlk) (iblk8 m c t ▸ isBlk_rest tabBack_isBlk) (iblk9 m c t ▸ tabOut_isOut) (iblk10 m c t ▸ tabOut_rest)
    (iblk11 m c t ▸ twRe_uTw) (iblk12 m c t ▸ twIm_uTw) (iblk13 m c t ▸ twRe_vTw) (iblk14 m c t ▸ twIm_vTw) (iblk15 m c t ▸ mask_isT)
  have key2 : ∀ (i : Fin 16) (r : Fin 256) (j : Fin 128), _ := fun i r j => (key i r j).trans (out_blk t (outG _ _ _) i r j).symm
  funext y
  obtain ⟨i, r, j, rfl⟩ : ∃ (i : Fin 16) (r : Fin 256) (j : Fin 128), y = ix3 i r j := ⟨y 0, y 1, y 2, idx3_eq y _ _ _ rfl rfl rfl⟩
  exact key2 i r j

/-- An index is in a grid point's block when its row is. -/
theorem mem_blk (t : Fin cfg0.N) (i : S16x4096x128.Idx) :
    i ∈ ((cfg0.win 16).blk t).view.set ↔ t.val * 256 ≤ (i 1 : Nat) ∧ (i 1 : Nat) < t.val * 256 + 256 := by
  show i ∈ ((View.whole main_v144).slice (win0_16.rect t)).set ↔ _
  rw [View.set_slice_whole, Rect.mem_set_unit]
  have h0 : (i 0 : Nat) < 16 := (i 0).isLt
  have h2 : (i 2 : Nat) < 128 := (i 2).isLt
  have e0 : win0_16.index t 0 * win0_16.size 0 = 0 := by rw [(moving t).2.2.2.1, Nat.zero_mul]
  have e1 : win0_16.index t 1 * win0_16.size 1 = t.val * 256 := by rw [(moving t).2.2.2.2.1]; rfl
  have e2 : win0_16.index t 2 * win0_16.size 2 = 0 := by rw [(moving t).2.2.2.2.2, Nat.zero_mul]
  have s0 : win0_16.xsize (grid0.coords t) 0 = 16 := rfl
  have s1 : win0_16.xsize (grid0.coords t) 1 = 256 := rfl
  have s2 : win0_16.xsize (grid0.coords t) 2 = 128 := rfl
  refine ⟨fun h => ?_, fun h a => ?_⟩
  · have := h 1
    change win0_16.index t 1 * win0_16.size 1 ≤ (i 1 : Nat) ∧ (i 1 : Nat) < win0_16.index t 1 * win0_16.size 1 + win0_16.xsize (grid0.coords t) 1 at this
    rw [e1, s1] at this; exact this
  · match a with
    | ⟨0, _⟩ => show win0_16.index t 0 * win0_16.size 0 ≤ (i 0 : Nat) ∧ (i 0 : Nat) < win0_16.index t 0 * win0_16.size 0 + win0_16.xsize (grid0.coords t) 0
                rw [e0, s0]; omega
    | ⟨1, _⟩ => show win0_16.index t 1 * win0_16.size 1 ≤ (i 1 : Nat) ∧ (i 1 : Nat) < win0_16.index t 1 * win0_16.size 1 + win0_16.xsize (grid0.coords t) 1
                rw [e1, s1]; exact h
    | ⟨2, _⟩ => show win0_16.index t 2 * win0_16.size 2 ≤ (i 2 : Nat) ∧ (i 2 : Nat) < win0_16.index t 2 * win0_16.size 2 + win0_16.xsize (grid0.coords t) 2
                rw [e2, s2]; omega

/-- The blocks tile the result's array. -/
theorem cover (i : S16x4096x128.Idx) :
    ∃ t : Fin cfg0.N, (cfg0.win 16).flush t = true ∧ i ∈ ((cfg0.win 16).blk t).view.set := by
  have h1 : (i 1 : Nat) < 4096 := (i 1).isLt
  refine ⟨⟨(i 1 : Nat) / 256, by show _ < grid0.N; rw [N_0]; omega⟩, flush0_16 _, ?_⟩
  rw [mem_blk]
  dsimp only
  omega

/-- The result's array at the end of the grid. -/
theorem final16 (c : Dev nD) (h0 : Real4 (m ((c : Thread nD τ).loc main_arg0))) (h1 : Real4 (m ((c : Thread nD τ).loc main_arg1)))
    (h2 : Real4 (m ((c : Thread nD τ).loc main_arg2))) : (dats m 0 c).arrAt 16 cfg0.N
      = outG (rows (m ((c : Thread nD τ).loc main_arg0))) (rows (m ((c : Thread nD τ).loc main_arg1))) (rows (m ((c : Thread nD τ).loc main_arg2))) :=
  (dats m 0 c).arrAt_eq_of_cover 16 _ (fun t _ => flushed_eq m c h0 h1 h2 t) cover

end Cert.KernelIdeal.Val
end
-- ==== Proof.Result.lean ====
module

public import proofs.«01_k».proof.Proof.Launch
public import Idealize.ShloMosaic.Lib.StableHlo.Run

@[expose] public section

set_option maxRecDepth 16384

noncomputable section

/-! The kernel's run, read at its result. -/

namespace Cert.KernelIdeal.Val

open Idealize.ShloMosaic Idealize.ShloMosaic.TcCoe Idealize.SL.Sem Cert.KernelIdeal Cert.KernelIdeal.Gen Cert.Math
open Idealize.ShloMosaic.Pipeline (Dat)

/-- An argument's sequence at a batch, head and channel, as real numbers. -/
def seqAt (x : FVec Ideal S4x2048x16x64 .f32) (b : Fin 4) (h : Fin 16) (e : Fin 64) (t : Fin 2048) : ℝ := (x (ix4 b t h e) : EReal).toReal

/-- The wanted result: every sequence attended at the delays of its strongest autocorrelations. -/
def wanted (q k v : FVec Ideal S4x2048x16x64 .f32) : FVec Ideal S4x2048x16x64 .f32 := fun i =>
  ((att (fun s => corr (seqAt q (i 0) (i 2) (i 3)) (seqAt k (i 0) (i 2) (i 3)) s) (seqAt v (i 0) (i 2) (i 3)) (i 1) : ℝ) : EReal)

/-- The lines after the grid: the rows laid back. -/
def untile (g : FVec Ideal S16x4096x128 .f32) : FVec Ideal S4x2048x16x64 .f32 :=
  transpose S4x2048x16x64 [0, 3, 1, 2] (shapeCast S4x16x64x2048 (transpose S4096x16x128 [1, 0, 2] g transposes_S16x4096x128_S4096x16x128_1_0_2)
    shapeCasts_S4096x16x128_S4x16x64x2048) transposes_S4x16x64x2048_S4x2048x16x64_0_3_1_2

/-- The rows laid back, read. -/
theorem untile_apply (g : FVec Ideal S16x4096x128 .f32) (b : Fin 4) (t : Fin 2048) (h : Fin 16) (e : Fin 64) :
    untile g (ix4 b t h e) = g (ix3 (⟨t / 128, by omega⟩ : Fin 16) (⟨(b * 16 + h) * 64 + e, by omega⟩ : Fin 4096) (⟨t % 128, by omega⟩ : Fin 128)) := by
  pointwise [untile]
  congr 2
  apply Fin.ext
  show (b : ℕ) * 1024 + h * 64 + e = (b * 16 + h) * 64 + e
  omega

variable (m : (ℓ : Loc nD τ sig) → Buf (Elt Ideal) ℓ) (ρ : Dev nD → PrngReg)

/-- The result's buffer after the lines that follow the grid. -/
theorem tail_eq (c : Dev nD) : Pipeline.afterTail₀ cfgs (dats m) 0 (V0 m) [hostOps1] c main_v147 = untile ((dats m 0 c).arrAt 16 cfg0.N) := by
  have e : Pipeline.withArrays (cfgs 0).spec c (V0 m c) (fun w => (dats m 0 c).arrAt w (cfgs 0).N) (Proc.devRef .tc main_v144) = (dats m 0 c).arrAt 16 cfg0.N :=
    Pipeline.withArrays_arr (cfgs 0).spec (by decide) c (V0 m c) (fun w => (dats m 0 c).arrAt w (cfgs 0).N) 16
  unfold Pipeline.afterTail₀
  simp only [hostOps1, List.flatten_cons, List.flatten_nil, List.append_nil]
  after_results_simp
  rw [e]
  rfl

/-- The kernel's run. -/
theorem run (h : ∀ c : Dev nD, Real4 (m ((c : Thread nD τ).loc main_arg0)) ∧ Real4 (m ((c : Thread nD τ).loc main_arg1)) ∧ Real4 (m ((c : Thread nD τ).loc main_arg2))) :
    θ_run defs (onTc (τ := τ) (main (F := Ideal))) ⟨m, fun _ => 0, ρ⟩ fun r => ∀ c : Dev nD,
      r.2.mem ((c : Thread nD τ).loc main_v147) = wanted (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r hr c => ⟨?_,
      (((hr c).2 main_arg0 (Pipeline.mem_restRefs_of main_arg0 (by decide) (by decide))).trans (W_main_arg0 m (dats m) c)),
      (((hr c).2 main_arg1 (Pipeline.mem_restRefs_of main_arg1 (by decide) (by decide))).trans (W_main_arg1 m (dats m) c)),
      (((hr c).2 main_arg2 (Pipeline.mem_restRefs_of main_arg2 (by decide) (by decide))).trans (W_main_arg2 m (dats m) c)),
      (((hr c).2 main_arg3 (Pipeline.mem_restRefs_of main_arg3 (by decide) (by decide))).trans (W_main_arg3 m (dats m) c))⟩) (run_main m ρ)
  refine ((hr c).2 main_v147 (Pipeline.mem_restRefs_of main_v147 (by decide) (by decide))).trans ?_
  rw [tail_eq, final16 m c (h c).1 (h c).2.1 (h c).2.2]
  funext i
  idx_vars i
  rw [untile_apply]
  have ht : at16 (⟨i1 / 128, by omega⟩ : Fin 16) (⟨i1 % 128, by omega⟩ : Fin 128) = i1 := Fin.ext (by show 128 * (i1.val / 128) + i1.val % 128 = i1.val; omega)
  have hr : ∀ x, rows x (⟨(i0 * 16 + i2) * 64 + i3, by omega⟩ : Fin 4096) = seqAt x i0 i2 i3 := fun x => by
    have e0 : (⟨((i0 * 16 + i2) * 64 + i3) / 1024, by omega⟩ : Fin 4) = i0 := Fin.ext (by show ((i0.val * 16 + i2.val) * 64 + i3.val) / 1024 = i0.val; omega)
    have e2 : (⟨((i0 * 16 + i2) * 64 + i3) / 64 % 16, by omega⟩ : Fin 16) = i2 := Fin.ext (by show ((i0.val * 16 + i2.val) * 64 + i3.val) / 64 % 16 = i2.val; omega)
    have e3 : (⟨((i0 * 16 + i2) * 64 + i3) % 64, by omega⟩ : Fin 64) = i3 := Fin.ext (by show ((i0.val * 16 + i2.val) * 64 + i3.val) % 64 = i3.val; omega)
    funext t
    unfold rows seqAt
    dsimp only
    rw [e0, e2, e3]
  have key : ∀ x y z : FVec Ideal S4x2048x16x64 .f32,
      ((att (fun s => corr (rows x (⟨(i0 * 16 + i2) * 64 + i3, by omega⟩ : Fin 4096)) (rows y (⟨(i0 * 16 + i2) * 64 + i3, by omega⟩ : Fin 4096)) s)
        (rows z (⟨(i0 * 16 + i2) * 64 + i3, by omega⟩ : Fin 4096)) (at16 (⟨i1 / 128, by omega⟩ : Fin 16) (⟨i1 % 128, by omega⟩ : Fin 128)) : ℝ) : EReal)
      = ((att (fun s => corr (seqAt x i0 i2 i3) (seqAt y i0 i2 i3) s) (seqAt z i0 i2 i3) i1 : ℝ) : EReal) := fun x y z => by rw [hr, hr, hr, ht]
  exact key _ _ _

end Cert.KernelIdeal.Val
end
-- ==== Proof.Finite.lean ====
module

public import proofs.«01_k».proof.Proof.Result
public import proofs.«01_k».proof.Pre_finite
public import Idealize.ShloMosaic.Lib.ReduceAll

@[expose] public section

set_option maxRecDepth 16384

noncomputable section

/-! What the precondition says of the arguments. -/

namespace Cert.Pre_finite

open Idealize.ShloMosaic
open Cert.KernelIdeal.Val (Real4)

/-- The precondition's shapes fit. -/
theorem facts : Facts := ⟨by decide, by decide, by decide⟩

/-- One argument's test: every entry's size is below the largest. -/
def test [Facts] (x : FVec Ideal S4x2048x16x64 .f32) : IVec S_ 1 :=
  Host.reduce IntOp.andi (cmpf .olt (Host.absf x) (broadcastInDim S4x2048x16x64 ![] Facts.bcast_S_S4x2048x16x64 (constant (F := Ideal) S_ .f32 0x7F800000#32)))
    (constantI S_ 1 1#1) Facts.reducesTo_S4x2048x16x64_S_d0_1_2_3 Facts.h_S_

/-- The precondition is the three tests together. -/
theorem fn_eq [Facts] (x y z : FVec Ideal S4x2048x16x64 .f32) (b : IVec S1 1) : fn (F := Ideal) x y z b = andi (andi (test x) (test y)) (test z) := rfl

instance : Subsingleton S_.Idx := ⟨fun _ _ => funext fun a => a.elim0⟩

/-- The word of all exponent bits is the top. -/
theorem ofBits_top : Ideal.ofBits .f32 0x7F800000#32 = (⊤ : EReal) := by simp [Ideal.ofBits, Ideal.ieee]

/-- An argument that passes its test has real entries only. -/
theorem test_real [Facts] (x : FVec Ideal S4x2048x16x64 .f32) (j : S_.Idx) (h : test x j = 1#1) : Real4 x := by
  intro i
  have e := Host.reduce_andi_all _ _ _ _ j h i
  pointwise at e
  rw [ofBits_top] at e
  have e' : max (x i : EReal) (-(x i : EReal)) < ⊤ := by
    by_contra n
    exact absurd (show BitVec.ofBool (decide (max (x i : EReal) (-(x i : EReal)) < ⊤)) = 1#1 from e) (by simp [n])
  refine (EReal.coe_toReal (fun t => ?_) (fun b => ?_)).symm
  · exact absurd ((le_max_left _ _).trans_lt e') (by rw [t]; exact lt_irrefl _)
  · exact absurd ((le_max_right _ _).trans_lt e') (by rw [b]; exact lt_irrefl _)

/-- Where the precondition holds all three arguments have real entries only. -/
theorem real_of_fn [hPre : Facts] (x y z : FVec Ideal S4x2048x16x64 .f32) (b : IVec S1 1) (h : fn (F := Ideal) x y z b = fun _ => 1#1) : Real4 x ∧ Real4 y ∧ Real4 z := by
  let j : S_.Idx := fun a => a.elim0
  rw [fn_eq] at h
  obtain ⟨hxy, hz⟩ := IntOp.andi_eq_one.1 (congrFun h j)
  obtain ⟨hx, hy⟩ := IntOp.andi_eq_one.1 hxy
  exact ⟨test_real x j hx, test_real y j hy, test_real z j hz⟩

end Cert.Pre_finite
end
-- ==== Proof.Spectrum.lean ====
module

public import proofs.«01_k».proof.Proof.Rounds
public import proofs.«01_k».proof.Proof.Angles
public import proofs.«01_k».proof.Proof.Gen.ReferenceIdeal.Run

@[expose] public section

set_option maxRecDepth 16384

noncomputable section

/-! The reference's autocorrelation, read. -/

namespace Cert.ReferenceIdeal.Val

open Idealize.ShloMosaic Idealize.ShloMosaic.TcCoe Cert.ReferenceIdeal Cert.ReferenceIdeal.Gen Cert.ReferenceIdeal.Value Cert.Math
open Cert.KernelIdeal.Val (esum)

variable (V0 : Valuation τ sig (Elt Ideal))

/-- The angles of the transform. -/
theorem angle_apply (f : Fin 1025) (t : Fin 2048) :
    res_main_v16 V0 (ix2 f t) = (((((f : ℕ) * t % 2048 : ℕ) : ℝ) * (2 / (2048 : ℕ)) * Real.pi : ℝ) : EReal) := by
  pointwise [res_main_v16]
  rw [low_bits _ _ 11 (by norm_num) _ (by decide) (by nlinarith [f.2, t.2]), ofBits_1024th, acos_neg_one, ← EReal.coe_mul, ← EReal.coe_mul]
  norm_num

/-- The transform's cosines. -/
theorem cos_apply (f : Fin 1025) (t : Fin 2048) : res_main_v17 V0 (ix2 f t) = (((w ((f : ℕ) * (t : ℕ) : ℤ)).re : ℝ) : EReal) := by
  pointwise [res_main_v17]
  rw [angle_apply, Ideal.cos_coe, cos_step 2048 1 _ (by norm_num)]
  push_cast
  rw [one_mul]

/-- The transform's sines. -/
theorem sin_apply (f : Fin 1025) (t : Fin 2048) : res_main_v18 V0 (ix2 f t) = (((w ((f : ℕ) * (t : ℕ) : ℤ)).im : ℝ) : EReal) := by
  pointwise [res_main_v18]
  rw [angle_apply, Ideal.sin_coe, sin_step 2048 1 _ (by norm_num)]
  push_cast
  rw [one_mul]

/-- A small word read as a real number. -/
theorem word_coe (n : ℕ) (hn : n < 2 ^ 31) : (FloatOps.sitofp (F := Ideal) FTy.f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The word `1/2`. -/
theorem ofBits_half : Ideal.ofBits .f32 1056964608#32 = ((1 / 2 : ℝ) : EReal) := by
  simp [Ideal.ofBits, Ideal.ieee]
  rw [← EReal.coe_mul]
  norm_num

/-- The word `2`. -/
theorem ofBits_two : Ideal.ofBits .f32 1073741824#32 = ((2 : ℝ) : EReal) := by
  simp [Ideal.ofBits, Ideal.ieee]
  rw [← EReal.coe_mul]
  norm_num

/-- The band kept. -/
theorem band_apply (f : Fin 1025) : res_main_v33 V0 (ix1 f) = ((band f : ℝ) : EReal) := by
  pointwise [res_main_v33, res_main_v27]
  rw [word_coe _ (by omega), ofBits_2048, ofBits_half, Ideal.div_coe (by norm_num), ← EReal.coe_mul, ← EReal.coe_zero]
  simp only [EReal.coe_lt_coe_iff]
  have hf := f.2
  have h1 : (0 < ((f : ℕ) : ℝ) * (1 / 2048)) ↔ (f : ℕ) ≠ 0 := by
    rw [← Nat.pos_iff_ne_zero, ← Nat.cast_pos (α := ℝ)]
    constructor <;> intro h <;> linarith
  have h2 : (((f : ℕ) : ℝ) * (1 / 2048) < 1 / 2) ↔ (f : ℕ) ≠ 1024 := by
    have : (f : ℕ) ≠ 1024 ↔ (f : ℕ) < 1024 := by omega
    rw [this, ← Nat.cast_lt (α := ℝ)]
    push_cast
    constructor <;> intro h <;> linarith
  simp only [h1, h2]
  unfold band
  by_cases h3 : (f : ℕ) = 0
  · simp [h3, IntOp.andi, FloatOps.uitofp]
  · by_cases h4 : (f : ℕ) = 1024
    · simp [h4, IntOp.andi, FloatOps.uitofp]
    · simp [h3, h4, IntOp.andi, FloatOps.uitofp]

/-- How often each frequency counts. -/
theorem count_apply (f : Fin 1025) : res_main_v58 V0 (ix1 f) = ((count f : ℝ) : EReal) := by
  pointwise [res_main_v58, res_main_v52]
  have hf := f.2
  have e : ∀ n : ℕ, n < 2048 → (BitVec.ofNat 32 (f : ℕ) = BitVec.ofNat 32 n ↔ (f : ℕ) = n) := fun n hn => by
    rw [← BitVec.toNat_inj, BitVec.toNat_ofNat, BitVec.toNat_ofNat, Nat.mod_eq_of_lt (by omega), Nat.mod_eq_of_lt (by omega)]
  have e0 := e 0 (by norm_num)
  have e1 := e 1024 (by norm_num)
  unfold Math.count
  rw [ofBits_two]
  by_cases h3 : (f : ℕ) = 0
  · simp [h3, IntOp.ori, IntOp.cmpi, Scalar.select]
  · by_cases h4 : (f : ℕ) = 1024
    · simp [h4, IntOp.ori, IntOp.cmpi, Scalar.select]
    · have b0 : (BitVec.ofNat 32 (f : ℕ) == 0#32) = false := beq_eq_false_iff_ne.mpr (fun h => h3 (e0.mp h))
      have b1 : (BitVec.ofNat 32 (f : ℕ) == 1024#32) = false := beq_eq_false_iff_ne.mpr (fun h => h4 (e1.mp h))
      simp [h3, h4, b0, b1, IntOp.ori, IntOp.cmpi, Scalar.select]

/-- A spectrum's real part as a sum of cosines. -/
theorem dft_re (x : Fin 2048 → ℝ) (f : ℕ) : (dft x f).re = ∑ t : Fin 2048, x t * (w ((f : ℕ) * (t : ℕ) : ℤ)).re := by
  unfold dft
  rw [Complex.re_sum]
  refine Finset.sum_congr rfl fun t _ => ?_
  rw [Complex.re_ofReal_mul, w_neg_re, mul_comm ((t : ℕ) : ℤ)]

/-- A spectrum's imaginary part as a sum of sines. -/
theorem dft_im (x : Fin 2048 → ℝ) (f : ℕ) : (dft x f).im = -∑ t : Fin 2048, x t * (w ((f : ℕ) * (t : ℕ) : ℤ)).im := by
  unfold dft
  rw [Complex.im_sum, ← Finset.sum_neg_distrib]
  refine Finset.sum_congr rfl fun t _ => ?_
  rw [Complex.im_ofReal_mul, w_neg_im, mul_comm ((t : ℕ) : ℤ), mul_neg]

/-- An argument whose entries are given real numbers. -/
def Has (x : FVec Ideal S4x2048x16x64 .f32) (q : Fin 4 → Fin 16 → Fin 64 → Fin 2048 → ℝ) : Prop :=
  ∀ b h e t, x (ix4 b t h e) = ((q b h e t : ℝ) : EReal)

variable {V0} {q k v : Fin 4 → Fin 16 → Fin 64 → Fin 2048 → ℝ}

/-- The first operand's spectrum, real parts. -/
theorem v36_apply (hq : Has (V0 (Proc.devRef .tc main_arg0)) q) (b : Fin 4) (h : Fin 16) (e : Fin 64) (f : Fin 1025) :
    res_main_v36 V0 (ix4 b h e f) = (((dft (q b h e) f).re * band f : ℝ) : EReal) := by
  pointwise [res_main_v36, res_main_v0]
  simp only [hq _ _ _ _, cos_apply, band_apply, ← EReal.coe_mul, esum, dft_re]

/-- The first operand's spectrum, imaginary parts. -/
theorem v39_apply (hq : Has (V0 (Proc.devRef .tc main_arg0)) q) (b : Fin 4) (h : Fin 16) (e : Fin 64) (f : Fin 1025) :
    res_main_v39 V0 (ix4 b h e f) = (((dft (q b h e) f).im * band f : ℝ) : EReal) := by
  pointwise [res_main_v39, res_main_v0]
  simp only [hq _ _ _ _, sin_apply, band_apply, ← EReal.coe_mul, esum, dft_im, ← EReal.coe_neg]

/-- The second operand's spectrum, real parts. -/
theorem v42_apply (hk : Has (V0 (Proc.devRef .tc main_arg1)) k) (b : Fin 4) (h : Fin 16) (e : Fin 64) (f : Fin 1025) :
    res_main_v42 V0 (ix4 b h e f) = (((dft (k b h e) f).re * band f : ℝ) : EReal) := by
  pointwise [res_main_v42, res_main_v1]
  simp only [hk _ _ _ _, cos_apply, band_apply, ← EReal.coe_mul, esum, dft_re]

/-- The second operand's spectrum, imaginary parts. -/
theorem v45_apply (hk : Has (V0 (Proc.devRef .tc main_arg1)) k) (b : Fin 4) (h : Fin 16) (e : Fin 64) (f : Fin 1025) :
    res_main_v45 V0 (ix4 b h e f) = (((dft (k b h e) f).im * band f : ℝ) : EReal) := by
  pointwise [res_main_v45, res_main_v1]
  simp only [hk _ _ _ _, sin_apply, band_apply, ← EReal.coe_mul, esum, dft_im, ← EReal.coe_neg]

/-- The band is its own square. -/
theorem band_sq (f : ℕ) : band f * band f = band f := by
  unfold band; split <;> norm_num

/-- The autocorrelation. -/
theorem v71_apply (hq : Has (V0 (Proc.devRef .tc main_arg0)) q) (hk : Has (V0 (Proc.devRef .tc main_arg1)) k)
    (b : Fin 4) (h : Fin 16) (e : Fin 64) (t : Fin 2048) :
    res_main_v71 V0 (ix4 b h e t) = ((corr (q b h e) (k b h e) t : ℝ) : EReal) := by
  pointwise [res_main_v71]
  simp only [id, v36_apply hq, v39_apply hq, v42_apply hk, v45_apply hk, cos_apply, sin_apply, count_apply, ← EReal.coe_mul, ← EReal.coe_add,
    ← EReal.coe_sub, esum, ofBits_2048, Ideal.div_coe (y := 2048) (by norm_num)]
  congr 1
  rw [corr_half, div_eq_mul_inv (_ - _), ← one_div]
  congr 1
  congr 1
  · refine Finset.sum_congr rfl fun f _ => ?_
    rw [Complex.mul_re, Complex.conj_re, Complex.conj_im]
    linear_combination ((dft (q b h e) f).re * (dft (k b h e) f).re + (dft (q b h e) f).im * (dft (k b h e) f).im) * count f * (w ((f : ℕ) * (t : ℕ) : ℤ)).re * band_sq f
  · refine Finset.sum_congr rfl fun f _ => ?_
    rw [Complex.mul_im, Complex.conj_re, Complex.conj_im]
    linear_combination ((dft (q b h e) f).im * (dft (k b h e) f).re - (dft (q b h e) f).re * (dft (k b h e) f).im) * count f * (w ((f : ℕ) * (t : ℕ) : ℤ)).im * band_sq f

end Cert.ReferenceIdeal.Val
end
-- ==== Proof.Choose.lean ====
module

public import proofs.«01_k».proof.Proof.Spectrum

@[expose] public section

set_option maxRecDepth 16384

noncomputable section

/-! The reference's choice of delays and its reading of the values there. -/

namespace Cert.ReferenceIdeal.Val

open Idealize.ShloMosaic Idealize.ShloMosaic.TcCoe Cert.ReferenceIdeal Cert.ReferenceIdeal.Gen Cert.ReferenceIdeal.Value Cert.Math
open Cert.KernelIdeal.Val (esum rk wt total total_pos later att)

/-- The dimension numbers of the gather. -/
abbrev gd : GatherDims S4x16x64x4096 S4x16x64x2048x1 S4x16x64x2048 := gather_S4x16x64x4096_S4x16x64x2048x1_S4x16x64x2048_n_3_012_012_3_4_1111

/-- A gather along the last axis, read: the start index clamped. -/
theorem gather_apply (x : FVec Ideal S4x16x64x4096 .f32) (idx : IVec S4x16x64x2048x1 32) (b : Fin 4) (h : Fin 16) (e : Fin 64) (t : Fin 2048) :
    Host.gather gd x idx (ix4 b h e t) = x (ix4 b h e (⟨min (idx (ix5 b h e t (0 : Fin 1))).toInt.toNat 4095, by omega⟩ : Fin 4096)) := by
  have parts : ∀ a : Fin 4, ((gd.operandIdx (ix4 b h e t) idx) a : ℕ)
      = gd.start (ix4 b h e t) idx a + gd.batchCoord (ix4 b h e t) a + gd.offCoord (ix4 b h e t) a := fun a => rfl
  have free : ∀ a : Fin 4, a ∉ gd.sKept := by decide
  have kept : ∀ a : Fin 4, gd.offCoord (ix4 b h e t) a = 0 := fun a => gd.offCoord_eq_zero _ _ (free a)
  have batch : ∀ a : Fin 4, a ∈ ([0, 1, 2] : List (Fin 4)) → ((gd.operandIdx (ix4 b h e t) idx) a : ℕ) = gd.batchCoord (ix4 b h e t) a := fun a ha => by
    rw [parts, kept, gd.start_batching _ _ _ ha, Nat.zero_add, Nat.add_zero]
  have last : ((gd.operandIdx (ix4 b h e t) idx) (3 : Fin 4) : ℕ) = min (idx (ix5 b h e t (0 : Fin 1))).toInt.toNat 4095 := by
    rw [parts, kept, gd.batchCoord_eq_zero _ _ (by decide)]
    simp only [Nat.add_zero]
    unfold GatherDims.start
    rw [dif_pos (by decide)]
    have hs : ∀ z, gd.siIdx (ix4 b h e t) z = ix5 b h e t (0 : Fin 1) := fun z => by
      funext y
      apply Fin.ext
      match y with
      | ⟨0, _⟩ => rfl
      | ⟨1, _⟩ => rfl
      | ⟨2, _⟩ => rfl
      | ⟨3, _⟩ => rfl
      | ⟨4, _⟩ => have hz : z.val < 1 := z.2
                  show z.val = 0
                  omega
    rw [hs]
    rfl
  show x _ = x _
  congr 1
  funext a
  apply Fin.ext
  match a with
  | ⟨0, _⟩ => refine (batch 0 (by decide)).trans ?_; unfold GatherDims.batchCoord; rw [dif_pos (by decide)]; rfl
  | ⟨1, _⟩ => refine (batch 1 (by decide)).trans ?_; unfold GatherDims.batchCoord; rw [dif_pos (by decide)]; rfl
  | ⟨2, _⟩ => refine (batch 2 (by decide)).trans ?_; unfold GatherDims.batchCoord; rw [dif_pos (by decide)]; rfl
  | ⟨3, _⟩ => exact last

/-- The choice's order is the rank. -/
theorem topK_apply (x : FVec Ideal S4x16x64x2048 .f32) (c : Fin 2048 → ℝ) (b : Fin 4) (h : Fin 16) (e : Fin 64)
    (hx : ∀ t, x (ix4 b h e t) = ((c t : ℝ) : EReal)) (n : Fin 7) :
    (Host.topK S4x16x64x7 3 (FloatOps.cmpfTotal .gt) x sliceFits_S4x16x64x2048_S4x16x64x7).1 (ix4 b h e n) = ((c (rank c ⟨n, by omega⟩) : ℝ) : EReal)
    ∧ (Host.topK S4x16x64x7 3 (FloatOps.cmpfTotal .gt) x sliceFits_S4x16x64x2048_S4x16x64x7).2 (ix4 b h e n) = BitVec.ofNat 32 (rank c ⟨n, by omega⟩ : Fin 2048) := by
  have al : ∀ k l : Fin 2048, Shape.Idx.along (s := S4x16x64x2048) (ix4 b h e l) 3 k = ix4 b h e k := fun k l => by
    funext a
    match a with
    | ⟨0, _⟩ => rfl
    | ⟨1, _⟩ => rfl
    | ⟨2, _⟩ => rfl
    | ⟨3, _⟩ => rfl
  have ord : ∀ l : Fin 2048, sortedFrom (fun k k' : Fin 2048 => FloatOps.cmpfTotal (F := Ideal) (φ := .f32) CmpDirection.gt
      (x (Shape.Idx.along (s := S4x16x64x2048) (ix4 b h e l) 3 k)) (x (Shape.Idx.along (s := S4x16x64x2048) (ix4 b h e l) 3 k')) == 1#1) = rank c := fun l => by
    unfold rank
    refine sortedFrom_congr _ _ fun k k' _ => ?_
    rw [al, al, hx, hx]
    show (BitVec.ofBool (decide (((c k' : ℝ) : EReal) < ((c k : ℝ) : EReal))) == 1#1) = decide (c k' < c k)
    simp only [EReal.coe_lt_coe_iff]
    by_cases hlt : c k' < c k <;> simp [hlt]
  constructor
  · unfold Host.topK Host.sort2
    pointwise
    rw [ord, al, hx]
  · unfold Host.topK Host.sort2
    pointwise
    rw [ord, al]
    rfl

end Cert.ReferenceIdeal.Val
end
-- ==== Proof.Weights.lean ====
module

public import proofs.«01_k».proof.Proof.Choose

@[expose] public section

set_option maxRecDepth 16384

noncomputable section

/-! The reference's weights and its result. -/

namespace Cert.ReferenceIdeal.Val

open Idealize.ShloMosaic Idealize.ShloMosaic.TcCoe Cert.ReferenceIdeal Cert.ReferenceIdeal.Gen Cert.ReferenceIdeal.Value Cert.Math
open Cert.KernelIdeal.Val (esum rk wt total total_pos later att)

variable {V0 : Valuation τ sig (Elt Ideal)} {q k v : Fin 4 → Fin 16 → Fin 64 → Fin 2048 → ℝ}

/-- The chosen values. -/
theorem values_apply (hq : Has (V0 (Proc.devRef .tc main_arg0)) q) (hk : Has (V0 (Proc.devRef .tc main_arg1)) k)
    (b : Fin 4) (h : Fin 16) (e : Fin 64) (n : Fin 7) :
    res_main_values V0 (ix4 b h e n) = ((corr (q b h e) (k b h e) (rank (fun s => corr (q b h e) (k b h e) s) ⟨n, by omega⟩) : ℝ) : EReal) :=
  (topK_apply _ (fun s => corr (q b h e) (k b h e) s) b h e (fun t => v71_apply hq hk b h e t) n).1

/-- The chosen delays. -/
theorem indices_apply (hq : Has (V0 (Proc.devRef .tc main_arg0)) q) (hk : Has (V0 (Proc.devRef .tc main_arg1)) k)
    (b : Fin 4) (h : Fin 16) (e : Fin 64) (n : Fin 7) :
    res_main_indices V0 (ix4 b h e n) = BitVec.ofNat 32 (rank (fun s => corr (q b h e) (k b h e) s) ⟨n, by omega⟩ : Fin 2048) :=
  (topK_apply _ (fun s => corr (q b h e) (k b h e) s) b h e (fun t => v71_apply hq hk b h e t) n).2

/-- The largest of the chosen values is the first. -/
theorem largest (x : FVec Ideal S4x16x64x7 .f32) (z : Fin 7 → ℝ) (b : Fin 4) (h : Fin 16) (e : Fin 64)
    (hx : ∀ n, x (ix4 b h e n) = ((z n : ℝ) : EReal)) (hz : ∀ n, z n ≤ z 0) :
    max (Ideal.ofBits FTy.f32 4286578688#32) (Finset.fold max (Ideal.ofBits FTy.f32 4286578688#32) x
      {i | reducesTo_S4x16x64x7_S4x16x64_d3.drop i = ix3 b h e}) = ((z 0 : ℝ) : EReal) := by
  have hat : ∀ i : S4x16x64x7.Idx, reducesTo_S4x16x64x7_S4x16x64_d3.drop i = ix3 b h e → i = ix4 b h e (i 3) := fun i hi => by
    have h0 : (i 0).val = b.val := congrArg Fin.val (congrFun hi 0)
    have h1 : (i 1).val = h.val := congrArg Fin.val (congrFun hi 1)
    have h2 : (i 2).val = e.val := congrArg Fin.val (congrFun hi 2)
    funext a
    match a with
    | ⟨0, _⟩ => exact Fin.ext h0
    | ⟨1, _⟩ => exact Fin.ext h1
    | ⟨2, _⟩ => exact Fin.ext h2
    | ⟨3, _⟩ => rfl
  rw [Cert.KernelIdeal.Val.ofBits_bot, max_eq_right bot_le]
  apply le_antisymm
  · rw [Finset.fold_max_le]
    refine ⟨bot_le, fun i hi => ?_⟩
    exact ((congrArg x (hat i (Finset.mem_filter.mp hi).2)).trans (hx (i 3))).trans_le (EReal.coe_le_coe_iff.mpr (hz _))
  · rw [Finset.le_fold_max]
    refine .inr ⟨ix4 b h e 0, Finset.mem_filter.mpr ⟨Finset.mem_univ _, ?_⟩, (hx 0).ge⟩
    funext a
    match a with
    | ⟨0, _⟩ => rfl
    | ⟨1, _⟩ => rfl
    | ⟨2, _⟩ => rfl

/-- The weights before they are shared out. -/
theorem v79_apply (hq : Has (V0 (Proc.devRef .tc main_arg0)) q) (hk : Has (V0 (Proc.devRef .tc main_arg1)) k)
    (b : Fin 4) (h : Fin 16) (e : Fin 64) (n : Fin 7) :
    res_main_v79 V0 (ix4 b h e n) = ((wt (fun s => corr (q b h e) (k b h e) s) n (by omega) : ℝ) : EReal) := by
  pointwise [res_main_v79]
  have first := largest (res_main_values V0) (fun n => corr (q b h e) (k b h e) (rank (fun s => corr (q b h e) (k b h e) s) ⟨n, by omega⟩)) b h e
    (fun n => values_apply hq hk b h e n) (fun n => by
      by_cases hn : n = 0
      · rw [hn]
      · exact (rank_ordered (fun s => corr (q b h e) (k b h e) s) (i := ⟨(0 : Fin 7), by omega⟩) (j := ⟨n, by omega⟩)
          (Fin.lt_def.mpr (Nat.pos_of_ne_zero fun h0 => hn (Fin.ext h0)))).1)
  refine (congrArg (fun y : EReal => Ideal.exp (@HSub.hSub EReal EReal EReal _ (res_main_values V0 (ix4 b h e n)) y)) first).trans ?_
  rw [values_apply hq hk, ← EReal.coe_sub, Ideal.exp_coe]
  rfl

/-- The weights. -/
theorem v83_apply (hq : Has (V0 (Proc.devRef .tc main_arg0)) q) (hk : Has (V0 (Proc.devRef .tc main_arg1)) k)
    (b : Fin 4) (h : Fin 16) (e : Fin 64) (n : Fin 7) :
    res_main_v83 V0 (ix4 b h e n) = ((wt (fun s => corr (q b h e) (k b h e) s) n (by omega) / total (fun s => corr (q b h e) (k b h e) s) : ℝ) : EReal) := by
  pointwise [res_main_v83]
  simp only [v79_apply hq hk, esum]
  have ht : ∑ x : Fin 7, wt (fun s => corr (q b h e) (k b h e) s) x (by omega) = total (fun s => corr (q b h e) (k b h e) s) := by
    rw [Fin.sum_univ_seven]; rfl
  rw [ht, Ideal.div_coe (total_pos _).ne', ← EReal.coe_mul, mul_one_div]

/-- The values twice over, read. -/
theorem v84_apply (hv : Has (V0 (Proc.devRef .tc main_arg2)) v) (b : Fin 4) (h : Fin 16) (e : Fin 64) (t s : Fin 2048) (p : Fin 4096) (hp : (p : ℕ) = t + s) :
    res_main_v84 V0 (ix4 b h e p) = ((v b h e (later t s) : ℝ) : EReal) := by
  pointwise [res_main_v84, res_main_v72]
  split
  · rw [hv]
    congr 2
    apply Fin.ext
    show (p : ℕ) = (t + s) % 2048
    omega
  · rw [hv]
    congr 2
    apply Fin.ext
    show (p : ℕ) - 2048 = (t + s) % 2048
    omega

/-- A delay's time as a word. -/
theorem delay_word (d : BitVec 32) (t s : Fin 2048) (hd : d = BitVec.ofNat 32 t + BitVec.ofNat 32 s) :
    min (Scalar.select (IntOp.cmpi CmpIPredicate.slt d 0#32) (IntOp.addi d 4096#32) d).toInt.toNat 4095 = (t : ℕ) + s := by
  have e1 : d.toNat = t + s := by
    rw [hd, ← BitVec.ofNat_add, BitVec.toNat_ofNat, Nat.mod_eq_of_lt (by omega)]
  have e2 : d.toInt = ((t + s : ℕ) : ℤ) := by rw [BitVec.toInt_eq_toNat_of_lt (by omega), e1]
  have e3 : IntOp.cmpi CmpIPredicate.slt d 0#32 = 0#1 := by
    show BitVec.ofBool (d.slt 0#32) = 0#1
    rw [BitVec.slt_eq_decide, e2]
    have : ¬ ((t + s : ℕ) : ℤ) < (0#32).toInt := by rw [BitVec.toInt_zero]; omega
    rw [decide_eq_false this]
    rfl
  rw [e3]
  show min d.toInt.toNat 4095 = _
  rw [e2]
  omega

/-- One delay's values. -/
theorem pick_apply (hv : Has (V0 (Proc.devRef .tc main_arg2)) v) (d : IVec S4x16x64x2048 32) (s : Fin 2048) (b : Fin 4) (h : Fin 16) (e : Fin 64) (t : Fin 2048)
    (hd : d (ix4 b h e t) = BitVec.ofNat 32 t + BitVec.ofNat 32 s) :
    Host.gather gd (res_main_v84 V0) (shapeCast S4x16x64x2048x1 (select (cmpi .slt d (broadcastInDim S4x16x64x2048 ![] bcast_S_S4x16x64x2048 (constantI S_ 32 0#32)))
      (addi d (broadcastInDim S4x16x64x2048 ![] bcast_S_S4x16x64x2048 (constantI S_ 32 4096#32))) d) shapeCasts_S4x16x64x2048_S4x16x64x2048x1) (ix4 b h e t)
      = ((v b h e (later t s) : ℝ) : EReal) := by
  rw [gather_apply]
  refine v84_apply hv b h e t s _ ?_
  pointwise
  exact delay_word _ t s hd

/-- The times no choices down. -/
theorem v91_apply (hq : Has (V0 (Proc.devRef .tc main_arg0)) q) (hk : Has (V0 (Proc.devRef .tc main_arg1)) k)
    (b : Fin 4) (h : Fin 16) (e : Fin 64) (t : Fin 2048) :
    res_main_v91 V0 (ix4 b h e t) = BitVec.ofNat 32 t + BitVec.ofNat 32 (rk (fun s => corr (q b h e) (k b h e) s) 0 : Fin 2048) := by
  pointwise [res_main_v91, res_main_v86]
  rw [indices_apply hq hk]
  rfl

/-- The times one choices down. -/
theorem v100_apply (hq : Has (V0 (Proc.devRef .tc main_arg0)) q) (hk : Has (V0 (Proc.devRef .tc main_arg1)) k)
    (b : Fin 4) (h : Fin 16) (e : Fin 64) (t : Fin 2048) :
    res_main_v100 V0 (ix4 b h e t) = BitVec.ofNat 32 t + BitVec.ofNat 32 (rk (fun s => corr (q b h e) (k b h e) s) 1 : Fin 2048) := by
  pointwise [res_main_v100, res_main_v86]
  rw [indices_apply hq hk]
  rfl

/-- The times two choices down. -/
theorem v109_apply (hq : Has (V0 (Proc.devRef .tc main_arg0)) q) (hk : Has (V0 (Proc.devRef .tc main_arg1)) k)
    (b : Fin 4) (h : Fin 16) (e : Fin 64) (t : Fin 2048) :
    res_main_v109 V0 (ix4 b h e t) = BitVec.ofNat 32 t + BitVec.ofNat 32 (rk (fun s => corr (q b h e) (k b h e) s) 2 : Fin 2048) := by
  pointwise [res_main_v109, res_main_v86]
  rw [indices_apply hq hk]
  rfl

/-- The times three choices down. -/
theorem v118_apply (hq : Has (V0 (Proc.devRef .tc main_arg0)) q) (hk : Has (V0 (Proc.devRef .tc main_arg1)) k)
    (b : Fin 4) (h : Fin 16) (e : Fin 64) (t : Fin 2048) :
    res_main_v118 V0 (ix4 b h e t) = BitVec.ofNat 32 t + BitVec.ofNat 32 (rk (fun s => corr (q b h e) (k b h e) s) 3 : Fin 2048) := by
  pointwise [res_main_v118, res_main_v86]
  rw [indices_apply hq hk]
  rfl

/-- The times four choices down. -/
theorem v127_apply (hq : Has (V0 (Proc.devRef .tc main_arg0)) q) (hk : Has (V0 (Proc.devRef .tc main_arg1)) k)
    (b : Fin 4) (h : Fin 16) (e : Fin 64) (t : Fin 2048) :
    res_main_v127 V0 (ix4 b h e t) = BitVec.ofNat 32 t + BitVec.ofNat 32 (rk (fun s => corr (q b h e) (k b h e) s) 4 : Fin 2048) := by
  pointwise [res_main_v127, res_main_v86]
  rw [indices_apply hq hk]
  rfl

/-- The times five choices down. -/
theorem v136_apply (hq : Has (V0 (Proc.devRef .tc main_arg0)) q) (hk : Has (V0 (Proc.devRef .tc main_arg1)) k)
    (b : Fin 4) (h : Fin 16) (e : Fin 64) (t : Fin 2048) :
    res_main_v136 V0 (ix4 b h e t) = BitVec.ofNat 32 t + BitVec.ofNat 32 (rk (fun s => corr (q b h e) (k b h e) s) 5 : Fin 2048) := by
  pointwise [res_main_v136, res_main_v86]
  rw [indices_apply hq hk]
  rfl

/-- The times six choices down. -/
theorem v145_apply (hq : Has (V0 (Proc.devRef .tc main_arg0)) q) (hk : Has (V0 (Proc.devRef .tc main_arg1)) k)
    (b : Fin 4) (h : Fin 16) (e : Fin 64) (t : Fin 2048) :
    res_main_v145 V0 (ix4 b h e t) = BitVec.ofNat 32 t + BitVec.ofNat 32 (rk (fun s => corr (q b h e) (k b h e) s) 6 : Fin 2048) := by
  pointwise [res_main_v145, res_main_v86]
  rw [indices_apply hq hk]
  rfl

end Cert.ReferenceIdeal.Val
end
-- ==== Proof.Total.lean ====
module

public import proofs.«01_k».proof.Proof.Weights

@[expose] public section

set_option maxRecDepth 16384

noncomputable section

/-! The reference's result. -/

namespace Cert.ReferenceIdeal.Val

open Idealize.ShloMosaic Idealize.ShloMosaic.TcCoe Cert.ReferenceIdeal Cert.ReferenceIdeal.Gen Cert.ReferenceIdeal.Value Cert.Math
open Cert.KernelIdeal.Val (esum rk wt total total_pos later att)

variable {V0 : Valuation τ sig (Elt Ideal)} {q k v : Fin 4 → Fin 16 → Fin 64 → Fin 2048 → ℝ}

/-- The values at one delay's times. -/
def picked (A : FVec Ideal S4x16x64x4096 .f32) (d : IVec S4x16x64x2048 32) : FVec Ideal S4x16x64x2048 .f32 :=
  Host.gather gd A (shapeCast S4x16x64x2048x1 (select (cmpi .slt d (broadcastInDim S4x16x64x2048 ![] bcast_S_S4x16x64x2048 (constantI S_ 32 0#32)))
      (addi d (broadcastInDim S4x16x64x2048 ![] bcast_S_S4x16x64x2048 (constantI S_ 32 4096#32))) d) shapeCasts_S4x16x64x2048_S4x16x64x2048x1)

/-- The seven delays' values, weighted. -/
def mixed (A : FVec Ideal S4x16x64x4096 .f32) (W : FVec Ideal S4x16x64x7 .f32) (d0 d1 d2 d3 d4 d5 d6 : IVec S4x16x64x2048 32) : FVec Ideal S4x16x64x2048 .f32 :=
  addf (addf (addf (addf (addf (addf (addf (broadcastInDim S4x16x64x2048 ![] bcast_S_S4x16x64x2048 (constant (F := Ideal) S_ .f32 0x00000000#32))
    (mulf (picked A d0) (broadcastInDim S4x16x64x2048 ![0, 1, 2, 3] bcast_S4x16x64x1_S4x16x64x2048_0_1_2_3 (extractStridedSlice S4x16x64x1 ![0, 0, 0, 0] W slices_S4x16x64x7_S4x16x64x1_0_0_0_0))))
    (mulf (picked A d1) (broadcastInDim S4x16x64x2048 ![0, 1, 2, 3] bcast_S4x16x64x1_S4x16x64x2048_0_1_2_3 (extractStridedSlice S4x16x64x1 ![0, 0, 0, 1] W slices_S4x16x64x7_S4x16x64x1_0_0_0_1))))
    (mulf (picked A d2) (broadcastInDim S4x16x64x2048 ![0, 1, 2, 3] bcast_S4x16x64x1_S4x16x64x2048_0_1_2_3 (extractStridedSlice S4x16x64x1 ![0, 0, 0, 2] W slices_S4x16x64x7_S4x16x64x1_0_0_0_2))))
    (mulf (picked A d3) (broadcastInDim S4x16x64x2048 ![0, 1, 2, 3] bcast_S4x16x64x1_S4x16x64x2048_0_1_2_3 (extractStridedSlice S4x16x64x1 ![0, 0, 0, 3] W slices_S4x16x64x7_S4x16x64x1_0_0_0_3))))
    (mulf (picked A d4) (broadcastInDim S4x16x64x2048 ![0, 1, 2, 3] bcast_S4x16x64x1_S4x16x64x2048_0_1_2_3 (extractStridedSlice S4x16x64x1 ![0, 0, 0, 4] W slices_S4x16x64x7_S4x16x64x1_0_0_0_4))))
    (mulf (picked A d5) (broadcastInDim S4x16x64x2048 ![0, 1, 2, 3] bcast_S4x16x64x1_S4x16x64x2048_0_1_2_3 (extractStridedSlice S4x16x64x1 ![0, 0, 0, 5] W slices_S4x16x64x7_S4x16x64x1_0_0_0_5))))
    (mulf (picked A d6) (broadcastInDim S4x16x64x2048 ![0, 1, 2, 3] bcast_S4x16x64x1_S4x16x64x2048_0_1_2_3 (extractStridedSlice S4x16x64x1 ![0, 0, 0, 6] W slices_S4x16x64x7_S4x16x64x1_0_0_0_6)))

/-- The weighted values, read. -/
theorem mixed_apply (A : FVec Ideal S4x16x64x4096 .f32) (W : FVec Ideal S4x16x64x7 .f32) (d0 d1 d2 d3 d4 d5 d6 : IVec S4x16x64x2048 32)
    (b : Fin 4) (h : Fin 16) (e : Fin 64) (t : Fin 2048) (x : Fin 7 → ℝ) (z0 z1 z2 z3 z4 z5 z6 : ℝ) (hW : ∀ n, W (ix4 b h e n) = ((x n : ℝ) : EReal))
    (h0 : picked A d0 (ix4 b h e t) = ((z0 : ℝ) : EReal)) (h1 : picked A d1 (ix4 b h e t) = ((z1 : ℝ) : EReal)) (h2 : picked A d2 (ix4 b h e t) = ((z2 : ℝ) : EReal))
    (h3 : picked A d3 (ix4 b h e t) = ((z3 : ℝ) : EReal)) (h4 : picked A d4 (ix4 b h e t) = ((z4 : ℝ) : EReal)) (h5 : picked A d5 (ix4 b h e t) = ((z5 : ℝ) : EReal))
    (h6 : picked A d6 (ix4 b h e t) = ((z6 : ℝ) : EReal)) :
    mixed A W d0 d1 d2 d3 d4 d5 d6 (ix4 b h e t) = ((x 0 * z0 + x 1 * z1 + x 2 * z2 + x 3 * z3 + x 4 * z4 + x 5 * z5 + x 6 * z6 : ℝ) : EReal) := by
  pointwise [mixed]
  simp only [h0, h1, h2, h3, h4, h5, h6, hW, ← EReal.coe_mul, ← EReal.coe_add, mul_comm (_ : ℝ) (x _)]

/-- The result before it is laid back is the weighted values. -/
theorem v150_eq : res_main_v150 V0 = mixed (res_main_v84 V0) (res_main_v83 V0) (res_main_v91 V0) (res_main_v100 V0) (res_main_v109 V0) (res_main_v118 V0)
    (res_main_v127 V0) (res_main_v136 V0) (res_main_v145 V0) := by
  unfold res_main_v150 mixed picked
  rfl

/-- The result before it is laid back. -/
theorem v150_apply (hq : Has (V0 (Proc.devRef .tc main_arg0)) q) (hk : Has (V0 (Proc.devRef .tc main_arg1)) k) (hv : Has (V0 (Proc.devRef .tc main_arg2)) v)
    (b : Fin 4) (h : Fin 16) (e : Fin 64) (t : Fin 2048) :
    res_main_v150 V0 (ix4 b h e t) = ((att (fun s => corr (q b h e) (k b h e) s) (v b h e) t : ℝ) : EReal) := by
  rw [v150_eq]
  refine (mixed_apply _ _ _ _ _ _ _ _ _ b h e t _ _ _ _ _ _ _ _ (fun n => v83_apply hq hk b h e n) (pick_apply hv _ _ b h e t (v91_apply hq hk b h e t))
    (pick_apply hv _ _ b h e t (v100_apply hq hk b h e t)) (pick_apply hv _ _ b h e t (v109_apply hq hk b h e t)) (pick_apply hv _ _ b h e t (v118_apply hq hk b h e t))
    (pick_apply hv _ _ b h e t (v127_apply hq hk b h e t)) (pick_apply hv _ _ b h e t (v136_apply hq hk b h e t)) (pick_apply hv _ _ b h e t (v145_apply hq hk b h e t))).trans ?_
  rfl

end Cert.ReferenceIdeal.Val
end
-- ==== Proof.Algebraic.lean ====
module

public import proofs.«01_k».proof.Defs
public import proofs.«01_k».proof.Proof.Finite
public import proofs.«01_k».proof.Proof.Total

@[expose] public section

set_option maxRecDepth 16384

noncomputable section

/-! The two programs agree: the kernel's result and the reference's are the same array. -/

namespace Cert.ReferenceIdeal.Val

open Idealize.ShloMosaic Idealize.ShloMosaic.TcCoe Idealize.SL.Sem Cert.ReferenceIdeal Cert.ReferenceIdeal.Gen Cert.ReferenceIdeal.Value Cert.Math
open Cert.KernelIdeal.Val (Real4 seqAt wanted)

/-- An argument of real entries holds the sequences read from it. -/
theorem has_seqAt {x : FVec Ideal S4x2048x16x64 .f32} (h : Real4 x) : Has x (fun b g e t => seqAt x b g e t) := fun b g e t => h (ix4 b t g e)

/-- The reference's result is the wanted array of its arguments. -/
theorem result_wanted {V0 : Valuation τ sig (Elt Ideal)} (hq : Real4 (V0 (Proc.devRef .tc main_arg0))) (hk : Real4 (V0 (Proc.devRef .tc main_arg1)))
    (hv : Real4 (V0 (Proc.devRef .tc main_arg2))) :
    transpose S4x2048x16x64 [0, 3, 1, 2] (res_main_v150 V0) transposes_S4x16x64x2048_S4x2048x16x64_0_3_1_2
      = wanted (V0 (Proc.devRef .tc main_arg0)) (V0 (Proc.devRef .tc main_arg1)) (V0 (Proc.devRef .tc main_arg2)) := by
  funext i
  idx_vars i
  pointwise
  exact v150_apply (has_seqAt hq) (has_seqAt hk) (has_seqAt hv) i0 i2 i3 i1

/-- From arguments the precondition allows, both programs end with the wanted array. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hm
  have real := fun c => Cert.Pre_finite.real_of_fn (hPre := Cert.Pre_finite.facts) _ _ _ _ (hpre c)
  refine ⟨fun c => wanted (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact Cert.KernelIdeal.Val.run m g real
  · refine (θ_run Cert.ReferenceIdeal.defs _ _).mono (fun r h c => ⟨(h c).1.trans ?_, (h c).2⟩) (Cert.ReferenceIdeal.Value.run m' g')
    obtain ⟨e0, e1, e2, -⟩ := hm c
    obtain ⟨r0, r1, r2⟩ := real c
    exact (result_wanted (V0 := StableHlo.launchContents m' c) ((congrArg Real4 e0).mpr r0) ((congrArg Real4 e1).mpr r1) ((congrArg Real4 e2).mpr r2)).trans
      (congr (congr (congrArg wanted e0) e1) e2)

end Cert.ReferenceIdeal.Val
end
-- ==== Proof.lean ====
/- The certificate's claims, put together: the three frames, the named constant, and the agreement of kernel and reference. -/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's run leaves its arguments as they were, and it declares no counter. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems rfl r.2⟩)
    (Cert.ReferenceIdeal.Value.run m ρ)

/-- The one idealized constant: the word the kernel strikes a value out with reads as the bottom of the reals. -/
theorem mask_preserves : Cert.preserves_Kernel_KernelIdeal :=
  IdealRules.named_const.statement Cert.KernelIdeal.κ "mask" .f32 0xF149F2CA#32 ⊥ rfl

/-- The certificate's claims. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, mask_preserves, Cert.ReferenceIdeal.Val.algebraic⟩

end Cert.Proof

end
